-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S16384x5 : Shape := ⟨2, ![16384, 5]⟩
abbrev S100000x64 : Shape := ⟨2, ![100000, 64]⟩
abbrev S320x128 : Shape := ⟨2, ![320, 128]⟩
abbrev S128 : Shape := ⟨1, ![128]⟩
abbrev S128x1000 : Shape := ⟨2, ![128, 1000]⟩
abbrev S1000 : Shape := ⟨1, ![1000]⟩
abbrev S_ : Shape := ⟨0, ![]⟩

class Facts : Prop where
  bcast_S_S16384x5 : S_.BroadcastsInDim S16384x5 (![] : Fin 0 → Fin S16384x5.rank)
  reducesTo_S16384x5_S_d0_1 : S16384x5.ReducesTo [0, 1] S_
  h_S_ : 0 < S_.numel

variable [Facts]

def fn {F : FTy → Type} [FloatOps F] (main_arg0 : IVec S16384x5 32) (main_arg1 : FVec F S100000x64 .f32) (main_arg2 : FVec F S320x128 .f32) (main_arg3 : FVec F S128 .f32) (main_arg4 : FVec F S128x1000 .f32) (main_arg5 : FVec F S1000 .f32) : IVec S_ 1 :=
  let main_c : IVec S_ 32 := constantI S_ 32 0#32
  let main_v0 : IVec S16384x5 32 := broadcastInDim S16384x5 ![] bcast_S_S16384x5 main_c
  let main_v1 : IVec S16384x5 1 := cmpi .sge main_arg0 main_v0
  let main_c_0 : IVec S_ 32 := constantI S_ 32 100000#32
  let main_v2 : IVec S16384x5 32 := broadcastInDim S16384x5 ![] bcast_S_S16384x5 main_c_0
  let main_v3 : IVec S16384x5 1 := cmpi .slt main_arg0 main_v2
  let main_v4 : IVec S16384x5 1 := andi main_v1 main_v3
  let main_c_1 : IVec S_ 1 := constantI S_ 1 1#1
  let main_v5 : IVec S_ 1 := (fun x v => Host.reduce IntOp.andi x v reducesTo_S16384x5_S_d0_1 h_S_) main_v4 main_c_1
  main_v5
-- ==== Kernel.lean ====
abbrev S16384x5 : Shape := ⟨2, ![16384, 5]⟩
abbrev S100000x64 : Shape := ⟨2, ![100000, 64]⟩
abbrev S320x128 : Shape := ⟨2, ![320, 128]⟩
abbrev S128 : Shape := ⟨1, ![128]⟩
abbrev S128x1000 : Shape := ⟨2, ![128, 1000]⟩
abbrev S1000 : Shape := ⟨1, ![1000]⟩
abbrev S_ : Shape := ⟨0, ![]⟩
abbrev S100000x128 : Shape := ⟨2, ![100000, 128]⟩
abbrev S5x16384 : Shape := ⟨2, ![5, 16384]⟩
abbrev S5x8192 : Shape := ⟨2, ![5, 8192]⟩
abbrev S40960 : Shape := ⟨1, ![40960]⟩
abbrev S40960x128 : Shape := ⟨2, ![40960, 128]⟩
abbrev S512 : Shape := ⟨1, ![512]⟩
abbrev S2 : Shape := ⟨1, ![2]⟩
abbrev S2x256x128 : Shape := ⟨3, ![2, 256, 128]⟩
abbrev S256 : Shape := ⟨1, ![256]⟩
abbrev S1 : Shape := ⟨1, ![1]⟩
abbrev S1x256x128 : Shape := ⟨3, ![1, 256, 128]⟩
abbrev S256x128 : Shape := ⟨2, ![256, 128]⟩
abbrev S1x128 : Shape := ⟨2, ![1, 128]⟩
abbrev S1000x1 : Shape := ⟨2, ![1000, 1]⟩
abbrev S1000x16384 : Shape := ⟨2, ![1000, 16384]⟩
abbrev S1024x128 : Shape := ⟨2, ![1024, 128]⟩
abbrev S1000x1024 : Shape := ⟨2, ![1000, 1024]⟩
abbrev S1024x64 : Shape := ⟨2, ![1024, 64]⟩
abbrev S64x128 : Shape := ⟨2, ![64, 128]⟩
abbrev S1024 : Shape := ⟨1, ![1024]⟩
abbrev S1x1024 : Shape := ⟨2, ![1, 1024]⟩
abbrev S16384x1000 : Shape := ⟨2, ![16384, 1000]⟩

abbrev nBuf : Table → Nat
  | .hbm => 23
  | .local .tc .vmem => 32
  | .local .scVector .vmem => 4
  | _ => 0

abbrev bufTy : (tb : Table) → Fin (nBuf tb) → BufTy
  | .hbm, ⟨0, _⟩ => ⟨S16384x5, .i32⟩
  | .hbm, ⟨1, _⟩ => ⟨S100000x64, .f32⟩
  | .hbm, ⟨2, _⟩ => ⟨S320x128, .f32⟩
  | .hbm, ⟨3, _⟩ => ⟨S128, .f32⟩
  | .hbm, ⟨4, _⟩ => ⟨S128x1000, .f32⟩
  | .hbm, ⟨5, _⟩ => ⟨S1000, .f32⟩
  | .hbm, ⟨6, _⟩ => ⟨S_, .i32⟩
  | .hbm, ⟨7, _⟩ => ⟨S_, .f32⟩
  | .hbm, ⟨8, _⟩ => ⟨S100000x128, .f32⟩
  | .hbm, ⟨9, _⟩ => ⟨S5x16384, .i32⟩
  | .hbm, ⟨10, _⟩ => ⟨S5x8192, .i32⟩
  | .hbm, ⟨11, _⟩ => ⟨S40960, .i32⟩
  | .hbm, ⟨12, _⟩ => ⟨S40960x128, .f32⟩
  | .hbm, ⟨13, _⟩ => ⟨S1x128, .f32⟩
  | .hbm, ⟨14, _⟩ => ⟨S1000x1, .f32⟩
  | .hbm, ⟨15, _⟩ => ⟨S1000x16384, .f32⟩
  | .hbm, ⟨16, _⟩ => ⟨S5x8192, .i32⟩
  | .hbm, ⟨17, _⟩ => ⟨S40960, .i32⟩
  | .hbm, ⟨18, _⟩ => ⟨S40960x128, .f32⟩
  | .hbm, ⟨19, _⟩ => ⟨S1x128, .f32⟩
  | .hbm, ⟨20, _⟩ => ⟨S1000x1, .f32⟩
  | .hbm, ⟨21, _⟩ => ⟨S1000x16384, .f32⟩
  | .hbm, ⟨22, _⟩ => ⟨S16384x1000, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .tc .vmem, ⟨5, _⟩ => ⟨S1024x128, .f32⟩
  | .local .tc .vmem, ⟨6, _⟩ => ⟨S1024x128, .f32⟩
  | .local .tc .vmem, ⟨7, _⟩ => ⟨S1024x128, .f32⟩
  | .local .tc .vmem, ⟨8, _⟩ => ⟨S1024x128, .f32⟩
  | .local .tc .vmem, ⟨9, _⟩ => ⟨S1024x128, .f32⟩
  | .local .tc .vmem, ⟨10, _⟩ => ⟨S320x128, .f32⟩
  | .local .tc .vmem, ⟨11, _⟩ => ⟨S1x128, .f32⟩
  | .local .tc .vmem, ⟨12, _⟩ => ⟨S128x1000, .f32⟩
  | .local .tc .vmem, ⟨13, _⟩ => ⟨S1000x1, .f32⟩
  | .local .tc .vmem, ⟨14, _⟩ => ⟨S1000x1024, .f32⟩
  | .local .tc .vmem, ⟨15, _⟩ => ⟨S1000x1024, .f32⟩
  | .local .tc .vmem, ⟨16, _⟩ => ⟨S1024x128, .f32⟩
  | .local .tc .vmem, ⟨17, _⟩ => ⟨S1024x128, .f32⟩
  | .local .tc .vmem, ⟨18, _⟩ => ⟨S1024x128, .f32⟩
  | .local .tc .vmem, ⟨19, _⟩ => ⟨S1024x128, .f32⟩
  | .local .tc .vmem, ⟨20, _⟩ => ⟨S1024x128, .f32⟩
  | .local .tc .vmem, ⟨21, _⟩ => ⟨S1024x128, .f32⟩
  | .local .tc .vmem, ⟨22, _⟩ => ⟨S1024x128, .f32⟩
  | .local .tc .vmem, ⟨23, _⟩ => ⟨S1024x128, .f32⟩
  | .local .tc .vmem, ⟨24, _⟩ => ⟨S1024x128, .f32⟩
  | .local .tc .vmem, ⟨25, _⟩ => ⟨S1024x128, .f32⟩
  | .local .tc .vmem, ⟨26, _⟩ => ⟨S320x128, .f32⟩
  | .local .tc .vmem, ⟨27, _⟩ => ⟨S1x128, .f32⟩
  | .local .tc .vmem, ⟨28, _⟩ => ⟨S128x1000, .f32⟩
  | .local .tc .vmem, ⟨29, _⟩ => ⟨S1000x1, .f32⟩
  | .local .tc .vmem, ⟨30, _⟩ => ⟨S1000x1024, .f32⟩
  | .local .tc .vmem, ⟨31, _⟩ => ⟨S1000x1024, .f32⟩
  | .local .scVector .vmem, ⟨0, _⟩ => ⟨S512, .i32⟩
  | .local .scVector .vmem, ⟨1, _⟩ => ⟨S2x256x128, .f32⟩
  | .local .scVector .vmem, ⟨2, _⟩ => ⟨S512, .i32⟩
  | .local .scVector .vmem, ⟨3, _⟩ => ⟨S2x256x128, .f32⟩
  | _, _ => ⟨S16384x5, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v0_scv : Ref sig .scVector := ⟨.hbm, 8, rfl⟩
abbrev main_v3_scv : Ref sig .scVector := ⟨.hbm, 11, rfl⟩
abbrev main_v4_scv : Ref sig .scVector := ⟨.hbm, 12, rfl⟩
abbrev main_v9_scv : Ref sig .scVector := ⟨.hbm, 17, rfl⟩
abbrev main_v10_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg9_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg8_0 : Ref sig .tc := ⟨.vmem, 29, rfl⟩
abbrev cc3_stg9_0 : Ref sig .tc := ⟨.vmem, 30, rfl⟩
abbrev cc3_stg9_1 : Ref sig .tc := ⟨.vmem, 31, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 1 → Nat :=
  let c0_i32_13_r0 : BitVec 32 := 0#32
  let c2_i32_r0 : BitVec 32 := 2#32
  let v21_r0 : BitVec 32 := Scalar.remui c0_i32_13_r0 c2_i32_r0
  let c256_i32_14_r0 : BitVec 32 := 256#32
  let v23_r0 : BitVec 32 := Scalar.muli v21_r0 c256_i32_14_r0
  let c0_i32_15_r0 : BitVec 32 := 0#32
  let v24_r0 : BitVec 32 := Scalar.addi v23_r0 c0_i32_15_r0
  ![v24_r0.toNat]
def k0_off2 (i : grid0.Coords) : Fin 1 → Nat :=
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v7_r0 : BitVec 32 := Scalar.addi c0_i32_1_r0 v4
  let v22_r0 : BitVec 32 := Scalar.muli c256_i32_r0 v7_r0
  ![v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_22_r0 : BitVec 32 := 0#32
  let c5_i32_23_r0 : BitVec 32 := 5#32
  let v32_r0 : BitVec 32 := Scalar.addi c0_i32_22_r0 c5_i32_23_r0
  let c1_i32_24_r0 : BitVec 32 := 1#32
  ⟨c0_i32_22_r0, v32_r0, c1_i32_24_r0⟩
def k0_off4 (arg6_r0 : BitVec 32) : Fin 1 → Nat :=
  let c2_i32_95_r0 : BitVec 32 := 2#32
  let v145_r0 : BitVec 32 := Scalar.remui arg6_r0 c2_i32_95_r0
  let c256_i32_97_r0 : BitVec 32 := 256#32
  let v147_r0 : BitVec 32 := Scalar.muli v145_r0 c256_i32_97_r0
  let c0_i32_98_r0 : BitVec 32 := 0#32
  let v148_r0 : BitVec 32 := Scalar.addi v147_r0 c0_i32_98_r0
  ![v148_r0.toNat]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let v76_r0 : BitVec 32 := Scalar.addi v75_r0 v4
  let v82_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k0_t1
  let c4_i32_64_r0 : BitVec 32 := 4#32
  let v83_r0 : BitVec 1 := Scalar.cmpi .sge arg5_r0 c4_i32_64_r0
  let true_65_r0 : BitVec 1 := 1#1
  let v84_r0 : BitVec 1 := Scalar.xori v83_r0 true_65_r0
  let v85_r0 : BitVec 1 := Scalar.andi v82_r0 v84_r0
  let true_66_r0 : BitVec 1 := 1#1
  let v86_r0 : BitVec 1 := Scalar.andi v85_r0 true_66_r0
  let v87_r0 : BitVec 32 := Scalar.extui v86_r0
  let c0_i32_67_r0 : BitVec 32 := 0#32
  let v88_r0 : BitVec 1 := Scalar.cmpi .ne v87_r0 c0_i32_67_r0
  v88_r0

def k0_off5 (i : grid0.Coords) (arg10_r0 : BitVec 32) : Fin 1 → Nat :=
  let c256_i32_96_r0 : BitVec 32 := 256#32
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v76_r0 : BitVec 32 := Scalar.addi v75_r0 v4
  let v146_r0 : BitVec 32 := Scalar.muli c256_i32_96_r0 v76_r0
  ![v146_r0.toNat]
def k0_off6 (arg6_r0 : BitVec 32) : Fin 1 → Nat :=
  let c2_i32_95_r0 : BitVec 32 := 2#32
  let v145_r0 : BitVec 32 := Scalar.remui arg6_r0 c2_i32_95_r0
  ![v145_r0.toNat]
def k0_off7 (arg7_r0 : BitVec 32) : Fin 1 → Nat :=
  let c2_i32_96_r0 : BitVec 32 := 2#32
  let v146_r0 : BitVec 32 := Scalar.remui arg7_r0 c2_i32_96_r0
  let c256_i32_97_r0 : BitVec 32 := 256#32
  let v147_r0 : BitVec 32 := Scalar.muli v146_r0 c256_i32_97_r0
  let c0_i32_98_r0 : BitVec 32 := 0#32
  let v148_r0 : BitVec 32 := Scalar.addi v147_r0 c0_i32_98_r0
  ![v148_r0.toNat]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let v71_r0 : BitVec 32 := Scalar.addi v70_r0 v4
  let v96_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k0_t1
  let c0_i32_50_r0 : BitVec 32 := 0#32
  let v64_r0 : BitVec 1 := Scalar.cmpi .eq arg5_r0 c0_i32_50_r0
  let v97_r0 : BitVec 1 := Scalar.ori v96_r0 v64_r0
  let c0_i32_72_r0 : BitVec 32 := 0#32
  let v98_r0 : BitVec 1 := Scalar.cmpi .sge arg5_r0 c0_i32_72_r0
  let v99_r0 : BitVec 1 := Scalar.andi v97_r0 v98_r0
  let v100_r0 : BitVec 32 := Scalar.extui v99_r0
  let c0_i32_73_r0 : BitVec 32 := 0#32
  let v101_r0 : BitVec 1 := Scalar.cmpi .ne v100_r0 c0_i32_73_r0
  v101_r0

def k0_off8 (i : grid0.Coords) (arg10_r0 : BitVec 32) : Fin 1 → Nat :=
  let c256_i32_95_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v145_r0 : BitVec 32 := Scalar.muli c256_i32_95_r0 v66_r0
  ![v145_r0.toNat]
def k0_off9 (arg7_r0 : BitVec 32) : Fin 1 → Nat :=
  let c2_i32_96_r0 : BitVec 32 := 2#32
  let v146_r0 : BitVec 32 := Scalar.remui arg7_r0 c2_i32_96_r0
  ![v146_r0.toNat]
def k0_off10 (arg8_r0 : BitVec 32) : Fin 3 → Nat :=
  let c2_i32_78_r0 : BitVec 32 := 2#32
  let v110_r0 : BitVec 32 := Scalar.remui arg8_r0 c2_i32_78_r0
  let c0_i32_95_r1 : BitVec 32 := 0#32
  let c0_i32_96_r1 : BitVec 32 := 0#32
  ![v110_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 1 → Nat :=
  let c2_i32_76_r0 : BitVec 32 := 2#32
  let v108_r0 : BitVec 32 := Scalar.remui arg7_r0 c2_i32_76_r0
  let c256_i32_77_r0 : BitVec 32 := 256#32
  let v109_r0 : BitVec 32 := Scalar.muli v108_r0 c256_i32_77_r0
  ![v109_r0.toNat]

def k0_chk3 (arg7_r0 : BitVec 32) : Prop :=
  (∀ a, (k0_off11 arg7_r0) a + S256.size a ≤ S512.size a)
theorem k0_off11_inb : ∀ (arg7_r0 : BitVec 32) (k0_hw3 : k0_chk3 arg7_r0), ∀ a, (k0_off11 arg7_r0) a + S256.size a ≤ S512.size a := fun arg7_r0 k0_hw3 => k0_hw3

def k0_off12 (arg8_r0 : BitVec 32) : Fin 3 → Nat :=
  let c2_i32_95_r0 : BitVec 32 := 2#32
  let v145_r0 : BitVec 32 := Scalar.remui arg8_r0 c2_i32_95_r0
  let c0_i32_97_r0 : BitVec 32 := 0#32
  let c0_i32_98_r0 : BitVec 32 := 0#32
  ![v145_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let v76_r0 : BitVec 32 := Scalar.addi v75_r0 v4
  let v116_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k0_t1
  let c4_i32_51_r0 : BitVec 32 := 4#32
  let v65_r0 : BitVec 1 := Scalar.cmpi .eq arg5_r0 c4_i32_51_r0
  let v117_r0 : BitVec 1 := Scalar.ori v116_r0 v65_r0
  let v118_r0 : BitVec 32 := Scalar.extui v117_r0
  let c0_i32_80_r0 : BitVec 32 := 0#32
  let v119_r0 : BitVec 1 := Scalar.cmpi .ne v118_r0 c0_i32_80_r0
  v119_r0

def k0_off13 (i : grid0.Coords) (arg10_r0 : BitVec 32) : Fin 2 → Nat :=
  let c256_i32_96_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v146_r0 : BitVec 32 := Scalar.muli c256_i32_96_r0 v66_r0
  let c0_i32_99_r0 : BitVec 32 := 0#32
  ![v146_r0.toNat, 0]
def k0_off14 (arg8_r0 : BitVec 32) : Fin 1 → Nat :=
  let c2_i32_95_r0 : BitVec 32 := 2#32
  let v145_r0 : BitVec 32 := Scalar.remui arg8_r0 c2_i32_95_r0
  ![v145_r0.toNat]
def k0_off15 (arg9_r0 : BitVec 32) : Fin 3 → Nat :=
  let c2_i32_95_r0 : BitVec 32 := 2#32
  let v145_r0 : BitVec 32 := Scalar.remui arg9_r0 c2_i32_95_r0
  let c0_i32_97_r0 : BitVec 32 := 0#32
  let c0_i32_98_r0 : BitVec 32 := 0#32
  ![v145_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let v71_r0 : BitVec 32 := Scalar.addi v70_r0 v4
  let v129_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k0_t1
  let c0_i32_50_r0 : BitVec 32 := 0#32
  let v64_r0 : BitVec 1 := Scalar.cmpi .eq arg5_r0 c0_i32_50_r0
  let true_86_r0 : BitVec 1 := 1#1
  let v130_r0 : BitVec 1 := Scalar.xori v64_r0 true_86_r0
  let v131_r0 : BitVec 1 := Scalar.andi v129_r0 v130_r0
  let v132_r0 : BitVec 32 := Scalar.extui v131_r0
  let c0_i32_87_r0 : BitVec 32 := 0#32
  let v133_r0 : BitVec 1 := Scalar.cmpi .ne v132_r0 c0_i32_87_r0
  v133_r0

def k0_off16 (i : grid0.Coords) (arg10_r0 : BitVec 32) : Fin 2 → Nat :=
  let c256_i32_96_r0 : BitVec 32 := 256#32
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v71_r0 : BitVec 32 := Scalar.addi v70_r0 v4
  let v146_r0 : BitVec 32 := Scalar.muli c256_i32_96_r0 v71_r0
  let c0_i32_99_r0 : BitVec 32 := 0#32
  ![v146_r0.toNat, 0]
def k0_off17 (arg9_r0 : BitVec 32) : Fin 1 → Nat :=
  let c2_i32_95_r0 : BitVec 32 := 2#32
  let v145_r0 : BitVec 32 := Scalar.remui arg9_r0 c2_i32_95_r0
  ![v145_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S256.size a ≤ S512.size a) ∧
  (∀ (k0_h1 : k0_cond1 i k0_t1 arg10_r0 = 1#1), ∀ a, (k0_off5 i arg10_r0) a + S256.size a ≤ S40960.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S256.size a ≤ S512.size a) ∧
  (∀ (k0_h2 : k0_cond2 i k0_t1 arg10_r0 = 1#1), ∀ a, (k0_off8 i arg10_r0) a + S256.size a ≤ S40960.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S40960x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S40960x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S256.size a ≤ S512.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S256.size a ≤ S40960.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S256.size a ≤ S512.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S256.size a ≤ S40960.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S40960x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S40960x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_42_r0 : BitVec 32 := 2#32
  let v54_r0 : BitVec 32 := Scalar.remui v33_3_r0 c2_i32_42_r0
  let c0_i32_44_r0 : BitVec 32 := 0#32
  let c0_i32_45_r0 : BitVec 32 := 0#32
  ![v54_r0.toNat, 0, 0]

def k0_off19 (i : grid0.Coords) (v33_4_r0 : BitVec 32) : Fin 2 → Nat :=
  let c256_i32_43_r0 : BitVec 32 := 256#32
  let true_27_r0 : BitVec 1 := 1#1
  let c1_i32_26_r0 : BitVec 32 := 1#32
  let v34_r0 : BitVec 32 := Scalar.subi v33_4_r0 c1_i32_26_r0
  let v35_r0 : BitVec 32 := Scalar.select true_27_r0 v34_r0 v33_4_r0
  let c_m1_i32_28_r0 : BitVec 32 := 4294967295#32
  let v36_r0 : BitVec 1 := Scalar.cmpi .eq v35_r0 c_m1_i32_28_r0
  let c4_i32_29_r0 : BitVec 32 := 4#32
  let v37_r0 : BitVec 32 := Scalar.select v36_r0 c4_i32_29_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v38_r0 : BitVec 32 := Scalar.addi v37_r0 v4
  let v55_r0 : BitVec 32 := Scalar.muli c256_i32_43_r0 v38_r0
  let c0_i32_46_r0 : BitVec 32 := 0#32
  ![v55_r0.toNat, 0]

def k0_chk5 (i : grid0.Coords) (v33_4_r0 : BitVec 32) : Prop :=
  (∀ a, (k0_off19 i v33_4_r0) a + S256x128.size a ≤ S40960x128.size a)
theorem k0_off19_inb : ∀ (i : grid0.Coords) (v33_4_r0 : BitVec 32) (k0_hw5 : k0_chk5 i v33_4_r0), ∀ a, (k0_off19 i v33_4_r0) a + S256x128.size a ≤ S40960x128.size a := fun i v33_4_r0 k0_hw5 => k0_hw5

def k0_off20 (v33_3_r0 : BitVec 32) : Fin 1 → Nat :=
  let c2_i32_42_r0 : BitVec 32 := 2#32
  let v54_r0 : BitVec 32 := Scalar.remui v33_3_r0 c2_i32_42_r0
  ![v54_r0.toNat]
def k0_off21 (v33_3_r0 : BitVec 32) : Fin 3 → Nat :=
  let c2_i32_42_r0 : BitVec 32 := 2#32
  let v54_r0 : BitVec 32 := Scalar.remui v33_3_r0 c2_i32_42_r0
  let c0_i32_48_r0 : BitVec 32 := 0#32
  let c0_i32_49_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S320x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1000x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨2, ![2, 16], ![false, false]⟩

def k2_off1 : Fin 1 → Nat :=
  let c0_i32_13_r0 : BitVec 32 := 0#32
  let c2_i32_r0 : BitVec 32 := 2#32
  let v21_r0 : BitVec 32 := Scalar.remui c0_i32_13_r0 c2_i32_r0
  let c256_i32_14_r0 : BitVec 32 := 256#32
  let v23_r0 : BitVec 32 := Scalar.muli v21_r0 c256_i32_14_r0
  let c0_i32_15_r0 : BitVec 32 := 0#32
  let v24_r0 : BitVec 32 := Scalar.addi v23_r0 c0_i32_15_r0
  ![v24_r0.toNat]
def k2_off2 (i : grid2.Coords) : Fin 1 → Nat :=
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v7_r0 : BitVec 32 := Scalar.addi c0_i32_1_r0 v4
  let v22_r0 : BitVec 32 := Scalar.muli c256_i32_r0 v7_r0
  ![v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_22_r0 : BitVec 32 := 0#32
  let c5_i32_23_r0 : BitVec 32 := 5#32
  let v32_r0 : BitVec 32 := Scalar.addi c0_i32_22_r0 c5_i32_23_r0
  let c1_i32_24_r0 : BitVec 32 := 1#32
  ⟨c0_i32_22_r0, v32_r0, c1_i32_24_r0⟩
def k2_off4 (arg6_r0 : BitVec 32) : Fin 1 → Nat :=
  let c2_i32_95_r0 : BitVec 32 := 2#32
  let v145_r0 : BitVec 32 := Scalar.remui arg6_r0 c2_i32_95_r0
  let c256_i32_97_r0 : BitVec 32 := 256#32
  let v147_r0 : BitVec 32 := Scalar.muli v145_r0 c256_i32_97_r0
  let c0_i32_98_r0 : BitVec 32 := 0#32
  let v148_r0 : BitVec 32 := Scalar.addi v147_r0 c0_i32_98_r0
  ![v148_r0.toNat]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let v76_r0 : BitVec 32 := Scalar.addi v75_r0 v4
  let v82_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k2_t1
  let c4_i32_64_r0 : BitVec 32 := 4#32
  let v83_r0 : BitVec 1 := Scalar.cmpi .sge arg5_r0 c4_i32_64_r0
  let true_65_r0 : BitVec 1 := 1#1
  let v84_r0 : BitVec 1 := Scalar.xori v83_r0 true_65_r0
  let v85_r0 : BitVec 1 := Scalar.andi v82_r0 v84_r0
  let true_66_r0 : BitVec 1 := 1#1
  let v86_r0 : BitVec 1 := Scalar.andi v85_r0 true_66_r0
  let v87_r0 : BitVec 32 := Scalar.extui v86_r0
  let c0_i32_67_r0 : BitVec 32 := 0#32
  let v88_r0 : BitVec 1 := Scalar.cmpi .ne v87_r0 c0_i32_67_r0
  v88_r0

def k2_off5 (i : grid2.Coords) (arg10_r0 : BitVec 32) : Fin 1 → Nat :=
  let c256_i32_96_r0 : BitVec 32 := 256#32
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v76_r0 : BitVec 32 := Scalar.addi v75_r0 v4
  let v146_r0 : BitVec 32 := Scalar.muli c256_i32_96_r0 v76_r0
  ![v146_r0.toNat]
def k2_off6 (arg6_r0 : BitVec 32) : Fin 1 → Nat :=
  let c2_i32_95_r0 : BitVec 32 := 2#32
  let v145_r0 : BitVec 32 := Scalar.remui arg6_r0 c2_i32_95_r0
  ![v145_r0.toNat]
def k2_off7 (arg7_r0 : BitVec 32) : Fin 1 → Nat :=
  let c2_i32_96_r0 : BitVec 32 := 2#32
  let v146_r0 : BitVec 32 := Scalar.remui arg7_r0 c2_i32_96_r0
  let c256_i32_97_r0 : BitVec 32 := 256#32
  let v147_r0 : BitVec 32 := Scalar.muli v146_r0 c256_i32_97_r0
  let c0_i32_98_r0 : BitVec 32 := 0#32
  let v148_r0 : BitVec 32 := Scalar.addi v147_r0 c0_i32_98_r0
  ![v148_r0.toNat]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let v71_r0 : BitVec 32 := Scalar.addi v70_r0 v4
  let v96_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k2_t1
  let c0_i32_50_r0 : BitVec 32 := 0#32
  let v64_r0 : BitVec 1 := Scalar.cmpi .eq arg5_r0 c0_i32_50_r0
  let v97_r0 : BitVec 1 := Scalar.ori v96_r0 v64_r0
  let c0_i32_72_r0 : BitVec 32 := 0#32
  let v98_r0 : BitVec 1 := Scalar.cmpi .sge arg5_r0 c0_i32_72_r0
  let v99_r0 : BitVec 1 := Scalar.andi v97_r0 v98_r0
  let v100_r0 : BitVec 32 := Scalar.extui v99_r0
  let c0_i32_73_r0 : BitVec 32 := 0#32
  let v101_r0 : BitVec 1 := Scalar.cmpi .ne v100_r0 c0_i32_73_r0
  v101_r0

def k2_off8 (i : grid2.Coords) (arg10_r0 : BitVec 32) : Fin 1 → Nat :=
  let c256_i32_95_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v145_r0 : BitVec 32 := Scalar.muli c256_i32_95_r0 v66_r0
  ![v145_r0.toNat]
def k2_off9 (arg7_r0 : BitVec 32) : Fin 1 → Nat :=
  let c2_i32_96_r0 : BitVec 32 := 2#32
  let v146_r0 : BitVec 32 := Scalar.remui arg7_r0 c2_i32_96_r0
  ![v146_r0.toNat]
def k2_off10 (arg8_r0 : BitVec 32) : Fin 3 → Nat :=
  let c2_i32_78_r0 : BitVec 32 := 2#32
  let v110_r0 : BitVec 32 := Scalar.remui arg8_r0 c2_i32_78_r0
  let c0_i32_95_r1 : BitVec 32 := 0#32
  let c0_i32_96_r1 : BitVec 32 := 0#32
  ![v110_r0.toNat, 0, 0]

def k2_chk2 (arg8_r0 : BitVec 32) : Prop :=
  (∀ a, (k2_off10 arg8_r0) a + S1x256x128.size a ≤ S2x256x128.size a)
theorem k2_off10_inb : ∀ (arg8_r0 : BitVec 32) (k2_hw2 : k2_chk2 arg8_r0), ∀ a, (k2_off10 arg8_r0) a + S1x256x128.size a ≤ S2x256x128.size a := fun arg8_r0 k2_hw2 => k2_hw2

def k2_off11 (arg7_r0 : BitVec 32) : Fin 1 → Nat :=
  let c2_i32_76_r0 : BitVec 32 := 2#32
  let v108_r0 : BitVec 32 := Scalar.remui arg7_r0 c2_i32_76_r0
  let c256_i32_77_r0 : BitVec 32 := 256#32
  let v109_r0 : BitVec 32 := Scalar.muli v108_r0 c256_i32_77_r0
  ![v109_r0.toNat]

def k2_chk3 (arg7_r0 : BitVec 32) : Prop :=
  (∀ a, (k2_off11 arg7_r0) a + S256.size a ≤ S512.size a)
theorem k2_off11_inb : ∀ (arg7_r0 : BitVec 32) (k2_hw3 : k2_chk3 arg7_r0), ∀ a, (k2_off11 arg7_r0) a + S256.size a ≤ S512.size a := fun arg7_r0 k2_hw3 => k2_hw3

def k2_off12 (arg8_r0 : BitVec 32) : Fin 3 → Nat :=
  let c2_i32_95_r0 : BitVec 32 := 2#32
  let v145_r0 : BitVec 32 := Scalar.remui arg8_r0 c2_i32_95_r0
  let c0_i32_97_r0 : BitVec 32 := 0#32
  let c0_i32_98_r0 : BitVec 32 := 0#32
  ![v145_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c5_i32_58_r0 : BitVec 32 := 5#32
  let v74_r0 : BitVec 1 := Scalar.cmpi .eq v73_r0 c5_i32_58_r0
  let c0_i32_59_r0 : BitVec 32 := 0#32
  let v75_r0 : BitVec 32 := Scalar.select v74_r0 c0_i32_59_r0 v73_r0
  let v76_r0 : BitVec 32 := Scalar.addi v75_r0 v4
  let v116_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k2_t1
  let c4_i32_51_r0 : BitVec 32 := 4#32
  let v65_r0 : BitVec 1 := Scalar.cmpi .eq arg5_r0 c4_i32_51_r0
  let v117_r0 : BitVec 1 := Scalar.ori v116_r0 v65_r0
  let v118_r0 : BitVec 32 := Scalar.extui v117_r0
  let c0_i32_80_r0 : BitVec 32 := 0#32
  let v119_r0 : BitVec 1 := Scalar.cmpi .ne v118_r0 c0_i32_80_r0
  v119_r0

def k2_off13 (i : grid2.Coords) (arg10_r0 : BitVec 32) : Fin 2 → Nat :=
  let c256_i32_96_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v146_r0 : BitVec 32 := Scalar.muli c256_i32_96_r0 v66_r0
  let c0_i32_99_r0 : BitVec 32 := 0#32
  ![v146_r0.toNat, 0]
def k2_off14 (arg8_r0 : BitVec 32) : Fin 1 → Nat :=
  let c2_i32_95_r0 : BitVec 32 := 2#32
  let v145_r0 : BitVec 32 := Scalar.remui arg8_r0 c2_i32_95_r0
  ![v145_r0.toNat]
def k2_off15 (arg9_r0 : BitVec 32) : Fin 3 → Nat :=
  let c2_i32_95_r0 : BitVec 32 := 2#32
  let v145_r0 : BitVec 32 := Scalar.remui arg9_r0 c2_i32_95_r0
  let c0_i32_97_r0 : BitVec 32 := 0#32
  let c0_i32_98_r0 : BitVec 32 := 0#32
  ![v145_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let v71_r0 : BitVec 32 := Scalar.addi v70_r0 v4
  let v129_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k2_t1
  let c0_i32_50_r0 : BitVec 32 := 0#32
  let v64_r0 : BitVec 1 := Scalar.cmpi .eq arg5_r0 c0_i32_50_r0
  let true_86_r0 : BitVec 1 := 1#1
  let v130_r0 : BitVec 1 := Scalar.xori v64_r0 true_86_r0
  let v131_r0 : BitVec 1 := Scalar.andi v129_r0 v130_r0
  let v132_r0 : BitVec 32 := Scalar.extui v131_r0
  let c0_i32_87_r0 : BitVec 32 := 0#32
  let v133_r0 : BitVec 1 := Scalar.cmpi .ne v132_r0 c0_i32_87_r0
  v133_r0

def k2_off16 (i : grid2.Coords) (arg10_r0 : BitVec 32) : Fin 2 → Nat :=
  let c256_i32_96_r0 : BitVec 32 := 256#32
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c4_i32_55_r0 : BitVec 32 := 4#32
  let v70_r0 : BitVec 32 := Scalar.select v69_r0 c4_i32_55_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v71_r0 : BitVec 32 := Scalar.addi v70_r0 v4
  let v146_r0 : BitVec 32 := Scalar.muli c256_i32_96_r0 v71_r0
  let c0_i32_99_r0 : BitVec 32 := 0#32
  ![v146_r0.toNat, 0]
def k2_off17 (arg9_r0 : BitVec 32) : Fin 1 → Nat :=
  let c2_i32_95_r0 : BitVec 32 := 2#32
  let v145_r0 : BitVec 32 := Scalar.remui arg9_r0 c2_i32_95_r0
  ![v145_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S256.size a ≤ S512.size a) ∧
  (∀ (k2_h1 : k2_cond1 i k2_t1 arg10_r0 = 1#1), ∀ a, (k2_off5 i arg10_r0) a + S256.size a ≤ S40960.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S256.size a ≤ S512.size a) ∧
  (∀ (k2_h2 : k2_cond2 i k2_t1 arg10_r0 = 1#1), ∀ a, (k2_off8 i arg10_r0) a + S256.size a ≤ S40960.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x256x128.size a ≤ S2x256x128.size a) ∧
  (∀ (k2_h5 : k2_cond5 i k2_t1 arg10_r0 = 1#1), ∀ a, (k2_off13 i arg10_r0) a + S256x128.size a ≤ S40960x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x256x128.size a ≤ S2x256x128.size a) ∧
  (∀ (k2_h7 : k2_cond7 i k2_t1 arg10_r0 = 1#1), ∀ a, (k2_off16 i arg10_r0) a + S256x128.size a ≤ S40960x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S256.size a ≤ S512.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S256.size a ≤ S40960.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S256.size a ≤ S512.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S256.size a ≤ S40960.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x256x128.size a ≤ S2x256x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S256x128.size a ≤ S40960x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x256x128.size a ≤ S2x256x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S256x128.size a ≤ S40960x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_42_r0 : BitVec 32 := 2#32
  let v54_r0 : BitVec 32 := Scalar.remui v33_3_r0 c2_i32_42_r0
  let c0_i32_44_r0 : BitVec 32 := 0#32
  let c0_i32_45_r0 : BitVec 32 := 0#32
  ![v54_r0.toNat, 0, 0]

def k2_off19 (i : grid2.Coords) (v33_4_r0 : BitVec 32) : Fin 2 → Nat :=
  let c256_i32_43_r0 : BitVec 32 := 256#32
  let true_27_r0 : BitVec 1 := 1#1
  let c1_i32_26_r0 : BitVec 32 := 1#32
  let v34_r0 : BitVec 32 := Scalar.subi v33_4_r0 c1_i32_26_r0
  let v35_r0 : BitVec 32 := Scalar.select true_27_r0 v34_r0 v33_4_r0
  let c_m1_i32_28_r0 : BitVec 32 := 4294967295#32
  let v36_r0 : BitVec 1 := Scalar.cmpi .eq v35_r0 c_m1_i32_28_r0
  let c4_i32_29_r0 : BitVec 32 := 4#32
  let v37_r0 : BitVec 32 := Scalar.select v36_r0 c4_i32_29_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v38_r0 : BitVec 32 := Scalar.addi v37_r0 v4
  let v55_r0 : BitVec 32 := Scalar.muli c256_i32_43_r0 v38_r0
  let c0_i32_46_r0 : BitVec 32 := 0#32
  ![v55_r0.toNat, 0]

def k2_chk5 (i : grid2.Coords) (v33_4_r0 : BitVec 32) : Prop :=
  (∀ a, (k2_off19 i v33_4_r0) a + S256x128.size a ≤ S40960x128.size a)
theorem k2_off19_inb : ∀ (i : grid2.Coords) (v33_4_r0 : BitVec 32) (k2_hw5 : k2_chk5 i v33_4_r0), ∀ a, (k2_off19 i v33_4_r0) a + S256x128.size a ≤ S40960x128.size a := fun i v33_4_r0 k2_hw5 => k2_hw5

def k2_off20 (v33_3_r0 : BitVec 32) : Fin 1 → Nat :=
  let c2_i32_42_r0 : BitVec 32 := 2#32
  let v54_r0 : BitVec 32 := Scalar.remui v33_3_r0 c2_i32_42_r0
  ![v54_r0.toNat]
def k2_off21 (v33_3_r0 : BitVec 32) : Fin 3 → Nat :=
  let c2_i32_42_r0 : BitVec 32 := 2#32
  let v54_r0 : BitVec 32 := Scalar.remui v33_3_r0 c2_i32_42_r0
  let c0_i32_48_r0 : BitVec 32 := 0#32
  let c0_i32_49_r0 : BitVec 32 := 0#32
  ![v54_r0.toNat, 0, 0]

def k2_chk4 (v33_3_r0 : BitVec 32) : Prop :=
  (∀ a, (k2_off18 v33_3_r0) a + S1x256x128.size a ≤ S2x256x128.size a) ∧
  (∀ a, (k2_off20 v33_3_r0) a + S1.size a ≤ S2.size a) ∧
  (∀ a, (k2_off21 v33_3_r0) a + S1x256x128.size a ≤ S2x256x128.size a)
theorem k2_off18_inb : ∀ (v33_3_r0 : BitVec 32) (k2_hw4 : k2_chk4 v33_3_r0), ∀ a, (k2_off18 v33_3_r0) a + S1x256x128.size a ≤ S2x256x128.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x256x128.size a ≤ S2x256x128.size a := fun v33_3_r0 k2_hw4 => k2_hw4.2.2

abbrev grid3 : Pipeline.Grid := ⟨1, ![8], ![false]⟩

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S320x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1000 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1000x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x5 : Shape := ⟨2, ![16384, 5]⟩
abbrev S100000x64 : Shape := ⟨2, ![100000, 64]⟩
abbrev S320x128 : Shape := ⟨2, ![320, 128]⟩
abbrev S128 : Shape := ⟨1, ![128]⟩
abbrev S128x1000 : Shape := ⟨2, ![128, 1000]⟩
abbrev S1000 : Shape := ⟨1, ![1000]⟩
abbrev S_ : Shape := ⟨0, ![]⟩
abbrev S16384x5x1 : Shape := ⟨3, ![16384, 5, 1]⟩
abbrev S1 : Shape := ⟨1, ![1]⟩
abbrev S1x1x1 : Shape := ⟨3, ![1, 1, 1]⟩
abbrev S16384x5x64 : Shape := ⟨3, ![16384, 5, 64]⟩
abbrev S16384x320 : Shape := ⟨2, ![16384, 320]⟩
abbrev S16384x128 : Shape := ⟨2, ![16384, 128]⟩
abbrev S1x128 : Shape := ⟨2, ![1, 128]⟩
abbrev S16384x1000 : Shape := ⟨2, ![16384, 1000]⟩
abbrev S1x1000 : Shape := ⟨2, ![1, 1000]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x5, .i32⟩
  | .hbm, ⟨1, _⟩ => ⟨S100000x64, .f32⟩
  | .hbm, ⟨2, _⟩ => ⟨S320x128, .f32⟩
  | .hbm, ⟨3, _⟩ => ⟨S128, .f32⟩
  | .hbm, ⟨4, _⟩ => ⟨S128x1000, .f32⟩
  | .hbm, ⟨5, _⟩ => ⟨S1000, .f32⟩
  | .hbm, ⟨6, _⟩ => ⟨S_, .i32⟩
  | .hbm, ⟨7, _⟩ => ⟨S16384x5, .i32⟩
  | .hbm, ⟨8, _⟩ => ⟨S16384x5, .i1⟩
  | .hbm, ⟨9, _⟩ => ⟨S_, .i32⟩
  | .hbm, ⟨10, _⟩ => ⟨S16384x5, .i32⟩
  | .hbm, ⟨11, _⟩ => ⟨S16384x5, .i32⟩
  | .hbm, ⟨12, _⟩ => ⟨S16384x5, .i32⟩
  | .hbm, ⟨13, _⟩ => ⟨S16384x5x1, .i32⟩
  | .hbm, ⟨14, _⟩ => ⟨S1, .i32⟩
  | .hbm, ⟨15, _⟩ => ⟨S_, .i32⟩
  | .hbm, ⟨16, _⟩ => ⟨S16384x5x1, .i32⟩
  | .hbm, ⟨17, _⟩ => ⟨S16384x5x1, .i1⟩
  | .hbm, ⟨18, _⟩ => ⟨S1x1x1, .i32⟩
  | .hbm, ⟨19, _⟩ => ⟨S16384x5x1, .i32⟩
  | .hbm, ⟨20, _⟩ => ⟨S16384x5x1, .i1⟩
  | .hbm, ⟨21, _⟩ => ⟨S16384x5x1, .i1⟩
  | .hbm, ⟨22, _⟩ => ⟨S_, .i1⟩
  | .hbm, ⟨23, _⟩ => ⟨S16384x5, .i1⟩
  | .hbm, ⟨24, _⟩ => ⟨S16384x5x64, .f32⟩
  | .hbm, ⟨25, _⟩ => ⟨S16384x5x64, .i1⟩
  | .hbm, ⟨26, _⟩ => ⟨S_, .f32⟩
  | .hbm, ⟨27, _⟩ => ⟨S16384x5x64, .f32⟩
  | .hbm, ⟨28, _⟩ => ⟨S16384x5x64, .f32⟩
  | .hbm, ⟨29, _⟩ => ⟨S16384x320, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x1000, .f32⟩
  | .hbm, ⟨36, _⟩ => ⟨S1x1000, .f32⟩
  | .hbm, ⟨37, _⟩ => ⟨S16384x1000, .f32⟩
  | .hbm, ⟨38, _⟩ => ⟨S16384x1000, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1, .f32⟩
  | .hbm, ⟨45, _⟩ => ⟨S16384x1000, .f32⟩
  | .hbm, ⟨46, _⟩ => ⟨S16384x1000, .f32⟩
  | .hbm, ⟨47, _⟩ => ⟨S16384x1000, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S16384x1000, .f32⟩
  | .hbm, ⟨52, _⟩ => ⟨S16384x1000, .f32⟩
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_cst_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Words.lean ====
/-
  The arithmetic of the gather kernel's five-trip loop: where each copy reads and writes, which of the four
  conditional steps a trip takes, and what the loop carries, in closed form over the tile's two grid coordinates and
  the trip. Tile `(c, s)` works on the five blocks of 256 rows that begin at block `5 * (s + 16 * c)`.
-/
module

public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The first of the tile's five blocks. -/
def b0 (i : grid0.Coords) : ℕ := 5 * ((i 1).val + 16 * (i 0).val)

theorem b0_le : ∀ i : grid0.Coords, b0 i ≤ 155 := by decide +kernel

/-- The tile's block `t`. -/
def blk (i : grid0.Coords) (t : Fin 5) : Fin 160 := ⟨b0 i + t.val, by have := b0_le i; omega⟩

/-- The word the kernel computes for the first block. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 5#32

/-- What the loop carries into trip `n`: blocks fetched, blocks waited for, blocks written out, write-outs waited for,
    the block at hand. -/
def wst (n : ℕ) : BitVec 32 × BitVec 32 × BitVec 32 × BitVec 32 × BitVec 32 :=
  (BitVec.ofNat 32 (min (n + 1) 5), BitVec.ofNat 32 n, BitVec.ofNat 32 n, BitVec.ofNat 32 (n - 1), BitVec.ofNat 32 (n % 5))

theorem trips_eq : k0_t1_loop.trips = 5 := by decide +kernel

local notation "Trip" => Fin k0_t1_loop.trips

/-- What trip `t` hands on, as the kernel computes it. -/
def nxt (i : grid0.Coords) (t : Trip) (v4 : BitVec 32) (a : BitVec 32 × BitVec 32 × BitVec 32 × BitVec 32 × BitVec 32) :
    BitVec 32 × BitVec 32 × BitVec 32 × BitVec 32 × BitVec 32 :=
  let (arg6, arg7, arg8, arg9, arg10) := a
  let arg5 := Scf.iv 0#32 1#32 t
  let v64 := Scalar.cmpi .eq arg5 0#32
  let v65 := Scalar.cmpi .eq arg5 4#32
  let v66 := Scalar.addi arg10 v4
  let v68 := Scalar.select 1#1 (Scalar.subi arg10 1#32) arg10
  let v71 := Scalar.addi (Scalar.select (Scalar.cmpi .eq v68 4294967295#32) 4#32 v68) v4
  let v73 := Scalar.select 1#1 (Scalar.addi arg10 1#32) arg10
  let v75 := Scalar.select (Scalar.cmpi .eq v73 5#32) 0#32 v73
  let v76 := Scalar.addi v75 v4
  let v85 := Scalar.andi (Scalar.cmpi .ne v66 v76) (Scalar.xori (Scalar.cmpi .sge arg5 4#32) 1#1)
  let v91 := Scalar.select (Scalar.andi v85 1#1) (Scalar.addi arg6 1#32) arg6
  let v117 := Scalar.ori (Scalar.cmpi .ne v66 v76) v65
  let v122 := Scalar.select (Scalar.andi v117 1#1) (Scalar.addi arg8 1#32) arg8
  let v131 := Scalar.andi (Scalar.cmpi .ne v66 v71) (Scalar.xori v64 1#1)
  let v136 := Scalar.select (Scalar.andi v131 1#1) (Scalar.addi arg9 1#32) arg9
  let v140 := Scalar.select v117 (Scalar.addi arg7 1#32) arg7
  (v91, v140, v122, v136, v75)

theorem nxt_eq : ∀ (i : grid0.Coords) (t : Trip), nxt i t (v4w i) (wst t.val) = wst (t.val + 1) := by decide +kernel

/-! ## The checks -/

theorem chk1 : ∀ (i : grid0.Coords) (t : Trip), k0_chk1 i t (wst t.val).1 (wst t.val).2.1 (wst t.val).2.2.1 (wst t.val).2.2.2.1 (wst t.val).2.2.2.2 := by
  decide +kernel
theorem chk2 : ∀ t : Trip, k0_chk2 (wst t.val).2.2.1 := by decide +kernel
theorem chk3 : ∀ t : Trip, k0_chk3 (wst t.val).2.1 := by decide +kernel
theorem chk4 : k0_chk4 (wst 5).2.2.2.1 := by decide +kernel
theorem chk5 : ∀ i : grid0.Coords, k0_chk5 i (wst 5).2.2.2.2 := by decide +kernel

/-! ## The conditions -/

theorem cond1_iff : ∀ (i : grid0.Coords) (t : Trip), k0_cond1 i t (wst t.val).2.2.2.2 = 1#1 ↔ t.val < 4 := by decide +kernel
theorem cond2 : ∀ (i : grid0.Coords) (t : Trip), k0_cond2 i t (wst t.val).2.2.2.2 = 1#1 := by decide +kernel
theorem cond5 : ∀ (i : grid0.Coords) (t : Trip), k0_cond5 i t (wst t.val).2.2.2.2 = 1#1 := by decide +kernel
theorem cond7_iff : ∀ (i : grid0.Coords) (t : Trip), k0_cond7 i t (wst t.val).2.2.2.2 = 1#1 ↔ 0 < t.val := by decide +kernel

/-! ## The offsets -/

theorem off1 : k0_off1 = ![256 * 0] := by decide +kernel
theorem off2 : ∀ i, k0_off2 i = ![256 * (b0 i + 0)] := by decide +kernel
theorem off3 : k0_off3 = ![0] := by decide +kernel
theorem off4 : ∀ t : Trip, k0_off4 (wst t.val).1 = ![256 * ((min (t.val + 1) 5) % 2)] := by decide +kernel
theorem off5 : ∀ (i : grid0.Coords) (t : Trip), t.val < 4 → k0_off5 i (wst t.val).2.2.2.2 = ![256 * (b0 i + (t.val + 1))] := by decide +kernel
theorem off6 : ∀ t : Trip, k0_off6 (wst t.val).1 = ![(min (t.val + 1) 5) % 2] := by decide +kernel
theorem off7 : ∀ t : Trip, k0_off7 (wst t.val).2.1 = ![256 * (t.val % 2)] := by decide +kernel
theorem off8 : ∀ (i : grid0.Coords) (t : Trip), k0_off8 i (wst t.val).2.2.2.2 = ![256 * (b0 i + t.val)] := by decide +kernel
theorem off9 : ∀ t : Trip, k0_off9 (wst t.val).2.1 = ![t.val % 2] := by decide +kernel
theorem off10 : ∀ t : Trip, k0_off10 (wst t.val).2.2.1 = ![t.val % 2, 0, 0] := by decide +kernel
theorem off11 : ∀ t : Trip, k0_off11 (wst t.val).2.1 = ![256 * (t.val % 2)] := by decide +kernel
theorem off12 : ∀ t : Trip, k0_off12 (wst t.val).2.2.1 = ![t.val % 2, 0, 0] := by decide +kernel
theorem off13 : ∀ (i : grid0.Coords) (t : Trip), k0_off13 i (wst t.val).2.2.2.2 = ![256 * (b0 i + t.val), 0] := by decide +kernel
theorem off14 : ∀ t : Trip, k0_off14 (wst t.val).2.2.1 = ![t.val % 2] := by decide +kernel
theorem off15 : ∀ t : Trip, k0_off15 (wst t.val).2.2.2.1 = ![(t.val - 1) % 2, 0, 0] := by decide +kernel
theorem off16 : ∀ (i : grid0.Coords) (t : Trip), 0 < t.val → k0_off16 i (wst t.val).2.2.2.2 = ![256 * (b0 i + (t.val - 1)), 0] := by decide +kernel
theorem off17 : ∀ t : Trip, k0_off17 (wst t.val).2.2.2.1 = ![(t.val - 1) % 2] := by decide +kernel
theorem off19 : ∀ i : grid0.Coords, k0_off19 i (wst 5).2.2.2.2 = ![256 * (b0 i + 4), 0] := by decide +kernel
theorem off20 : k0_off20 (wst 5).2.2.2.1 = ![0] := by decide +kernel
theorem off21 : k0_off21 (wst 5).2.2.2.1 = ![0, 0, 0] := by decide +kernel

end Cert.Proof.Words

end
-- ==== Proof.Setup.lean ====
/-
  The program as its launch is reasoned about — the SparseCores' handshakes, the two TensorCore pipelines, the local
  transfers of the vector subcores — and the rules for one local copy, one wait and one indirect gather, stated for
  memrefs held at known contents.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels: the kernels' own and the two pipelines' entries. -/
abbrev ΛP : Labels := Pipeline.Sig Λ₀ (Fin 2) fun p => (pcfgs (F := F) p).Adm
/-- The two SparseCore calls. -/
abbrev K : SparseCore.Cfg τ sig (ΛP (F := F)) 2 := sc (F := F)
/-- The kernels and the pipelines over them. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR
instance EP_landsIn : (EP (F := F)).LandsIn (upEmb : UEmb _ 𝕄) := by unfold EP; infer_instance
abbrev EC : UEmb Counters (MT nD τ sig (HIx 2) (Elt F) ℕ UU ℕ) := countersEmb

variable [FloatOps F]

/-! ## Control: an assumption, a conditional, a result -/

section Control

variable {c : Thread nD τ} {α β : Type} {Q : α → sProp (MT nD τ sig (HIx 2) (Elt F) ℕ UU ℕ)} {P : sProp (MT nD τ sig (HIx 2) (Elt F) ℕ UU ℕ)}

theorem ctl_assume {p : Prop} {dec : Decidable p} {k : PLift p → Prog (TpuEff nD τ sig (Elt F) Λ₀ c.2) α} (h : p) :
    wp frame (wpE (defs₀ (F := F)) 𝒱₀ c none) Set.univ (k ⟨h⟩) Q ⊢ wp frame (wpE (defs₀ (F := F)) 𝒱₀ c none) Set.univ (Prog.lift (.assume p dec) >>= k) Q := by
  rw [Prog.bind_lift]
  exact wp_assume _ _ _ _ h
theorem ctl_pos {p : Prop} {dec : Decidable p} {A : p → Prog (TpuEff nD τ sig (Elt F) Λ₀ c.2) α} {B : ¬p → Prog (TpuEff nD τ sig (Elt F) Λ₀ c.2) α} (h : p) :
    wp frame (wpE (defs₀ (F := F)) 𝒱₀ c none) Set.univ (A h) Q ⊢ wp frame (wpE (defs₀ (F := F)) 𝒱₀ c none) Set.univ (dite p A B) Q := by rw [dif_pos h]
theorem ctl_neg {p : Prop} {dec : Decidable p} {A : p → Prog (TpuEff nD τ sig (Elt F) Λ₀ c.2) α} {B : ¬p → Prog (TpuEff nD τ sig (Elt F) Λ₀ c.2) α} (h : ¬p) :
    wp frame (wpE (defs₀ (F := F)) 𝒱₀ c none) Set.univ (B h) Q ⊢ wp frame (wpE (defs₀ (F := F)) 𝒱₀ c none) Set.univ (dite p A B) Q := by rw [dif_neg h]
theorem ctl_same {p : Prop} {dec : Decidable p} {A : Prog (TpuEff nD τ sig (Elt F) Λ₀ c.2) α} :
    wp frame (wpE (defs₀ (F := F)) 𝒱₀ c none) Set.univ A Q ⊢ wp frame (wpE (defs₀ (F := F)) 𝒱₀ c none) Set.univ (ite p A A) Q := by rw [ite_self]
theorem ctl_pure {a : α} : Q a ⊢ wp frame (wpE (defs₀ (F := F)) 𝒱₀ c none) Set.univ (pure a : Prog (TpuEff nD τ sig (Elt F) Λ₀ c.2) α) Q := by
  rw [wp_pure]; exact fupd_intro
theorem ctl_bind {p : Prog (TpuEff nD τ sig (Elt F) Λ₀ c.2) β} {k : β → Prog (TpuEff nD τ sig (Elt F) Λ₀ c.2) α} :
    (wp frame (wpE (defs₀ (F := F)) 𝒱₀ c none) Set.univ p fun b => wp frame (wpE (defs₀ (F := F)) 𝒱₀ c none) Set.univ (k b) Q) ⊢ wp frame (wpE (defs₀ (F := F)) 𝒱₀ c none) Set.univ (p >>= k) Q := by rw [wp_bind]

end Control

/-! ## One step on memrefs held at known contents -/

section Steps

variable {c : Thread nD τ} {sp sp' : Space} {s s₀ si : Shape} {e : EltTy} {α : Type} {Q : α → sProp (MT nD τ sig (HIx 2) (Elt F) ℕ UU ℕ)}

/-- A copy of `src` into `dst`, both on this core, begun: in flight until its wait, which finds the destination at the
    source's contents. The memrefs and the semaphore as the program names them are equal to those held. -/
theorem wp_copy {src src' : Memref sig c.2.kind sp s e} {dst dst' : Memref sig c.2.kind sp' s e} {sm sm' : DmaSem sig}
    (hsrc' : src = src') (hdst' : dst = dst') (hsm' : sm = sm')
    {hsrc : src.view.WordExact} {hdst : dst.view.WordExact} {hsem : DmaTarget.Typed (nD := nD) sp (.dma sm) (.here dst)}
    {k : PUnit → Prog (TpuEff nD τ sig (Elt F) Λ₀ c.2) α} (q : PosShare TreeShare) (X : s.Idx → Elt F e)
    (hN0 : 0 < dst'.view.dmaCredit) :
    iprop(owns c src' q X ∗ (∃ Y, owns c dst' fullShare Y) ∗ semVal (c, .dma sm') 0)
      ⊢ iprop((Transfers.Flight (EC (F := F)) c (.dma sm') (default : HIx 2) dst'.view.dmaCredit iprop(owns c dst' fullShare X ∗ owns c src' q X)
              -∗ wp frame (wpE (defs₀ (F := F)) 𝒱₀ c none) Set.univ (k ⟨⟩) Q)
          -∗ wp frame (wpE (defs₀ (F := F)) 𝒱₀ c none) Set.univ (Prog.lift (.enqueueDma src (.here dst) (.dma sm) hsrc hdst hsem) >>= k) Q) := by
  rw [Prog.bind_lift]
  subst hsrc' hdst' hsm'
  have hsplit : ∀ (fs : Buf (Elt F) (src.view.loc c)) (fd : Buf (Elt F) (dst.view.loc c)), src.view.read (Elt F) fs = X →
      iprop((dst.view.loc c ↦[dst.view.set]{fullShare} (dst.view.write (Elt F) fd ((ReadAs.same : ReadAs (Elt F) s e s e).apply (src.view.read (Elt F) fs)) Finset.univ))
          ∗ (src.view.loc c ↦[src.view.set]{q} fs))
        ⊢ (iprop(owns c dst fullShare X ∗ owns c src q X) : sProp 𝕄) := by
    intro fs fd hfs
    iintro ⟨Hd, Hs⟩
    isplitl [Hd]
    · unfold owns; iexists _; isplitr
      swap; · iexact Hd
      ipureintro; rw [View.read_write_univ]; exact hfs
    · unfold owns; iexists _; isplitr
      swap; · iexact Hs
      ipureintro; exact hfs
  unfold owns
  iintro ⟨⟨%fs, %hfs, Hs⟩, ⟨%Y, %fd, -, Hd⟩, Hv⟩ Hk
  iapply (Transfers.wp_dmaLocal (EC (F := F)) 𝒱₀ c none (via := ReadAs.same) (default : HIx 2) dst.view.dmaCredit rfl hN0 (Finset.Subset.refl _)) $$ [Hs Hd Hv]
  · isplitl [Hs]; · iexact Hs
    isplitl [Hd]; · iexact Hd
    iexact Hv
  iintro Hfl
  iapply Hk
  iapply (Transfers.Flight_mono (EC (F := F)) c (hsplit fs fd hfs)) $$ Hfl

/-- The wait of a copy in flight. -/
theorem wp_await {κ' : Kind} {s' : Shape} {e' : EltTy} {srcw : Memref sig c.2.kind sp' s' e'} {dst dst' : Memref sig κ' sp s e} {sm sm' : DmaSem sig}
    (hdst' : dst = dst') (hsm' : sm = sm') {hsrc : srcw.view.WordExact} {hdst : dst.view.WordExact}
    {k : PUnit → Prog (TpuEff nD τ sig (Elt F) Λ₀ c.2) α} {Dl : sProp 𝕄} {O : CellTallies nD τ sig (HIx 2)} {W : Waits sig (HIx 2)} :
    iprop(Transfers.MayWaits c (default : HIx 2) O ∗ Transfers.Flight (EC (F := F)) c (.dma sm') (default : HIx 2) dst'.view.dmaCredit Dl ∗ owes c O W)
      ⊢ iprop((iprop(Dl ∗ semVal (c, .dma sm') 0 ∗ owes c O (insert (SemLoc.dma sm', (default : HIx 2)) W))
              -∗ wp frame (wpE (defs₀ (F := F)) 𝒱₀ c none) Set.univ (k ⟨⟩) Q)
          -∗ wp frame (wpE (defs₀ (F := F)) 𝒱₀ c none) Set.univ (Prog.lift (.waitDma2 sm srcw dst hsrc hdst) >>= k) Q) := by
  rw [Prog.bind_lift]
  subst hdst' hsm'
  iintro ⟨Hmw, Hfl, HO⟩
  iapply (Transfers.wp_waitLocalO (EC (F := F)) 𝒱₀ c none (default : HIx 2) (rfl : dst.view.dmaCredit = _))
  isplitl [Hfl]; · iexact Hfl
  isplitl [HO]; · iexact HO
  iapply (Transfers.MayWaits.elim (SemLoc.dma sm)) $$ Hmw

/-- An indirect gather begun: row `r` of the destination will be the source's row that word `r` of the list names. -/
theorem wp_gather {a : ℕ} {src src' : Memref sig c.2.kind sp s₀ e} {dst dst' : Memref sig c.2.kind .vmem s e} {hg : s₀.Gathers a s}
    {offs offs' : Memref sig c.2.kind .vmem si .i32} {hn : si.numel = s.size hg.axis'} {sm : DmaSem sig}
    (hsrc' : src = src') (hdst' : dst = dst') (hoffs' : offs = offs')
    {hp : c.2.kind = .scVector} {hsrc : src.view.WordExact} {he : e.bits = 32} {hsp : sp = .hbm ∨ sp = .shared} {hr : s₀.StreamRows a}
    {k : PUnit → Prog (TpuEff nD τ sig (Elt F) Λ₀ c.2) α} (q qo : PosShare TreeShare) (X : s₀.Idx → Elt F e) (ix : si.Idx → BitVec 32)
    (hN : ∑ j, (dst'.slice (s.rowRect hg.axis' j) (s.stride_rowRect hg.axis' j)).view.dmaCredit = dst'.view.dmaCredit)
    (hs : 0 < s.numel) (hin : ∀ x, (ix x).toNat < s₀.size hg.axis) :
    iprop(owns c src' q X ∗ (∃ Y, owns c dst' fullShare Y) ∗ owns c offs' qo (ix : si.Idx → Elt F .i32) ∗ semVal (c, .dma sm) 0)
      ⊢ iprop((Transfers.Flight (EC (F := F)) c (.dma sm) (default : HIx 2) dst'.view.dmaCredit
                iprop(owns c dst' fullShare (SparseCore.gatherPayload hg X (SparseCore.rows (F := F) ix hn hin)) ∗ owns c src' q X ∗ owns c offs' qo (ix : si.Idx → Elt F .i32))
              -∗ wp frame (wpE (defs₀ (F := F)) 𝒱₀ c none) Set.univ (k ⟨⟩) Q)
          -∗ wp frame (wpE (defs₀ (F := F)) 𝒱₀ c none) Set.univ (SparseCore.enqueueIndirectGather hp src dst hg offs hn sm hsrc he hsp hr >>= k) Q) := by
  subst hsrc' hdst' hoffs'
  unfold owns
  iintro ⟨⟨%fs, %hfs, Hs⟩, ⟨%Y, %fd, -, Hd⟩, ⟨%fo, %hfo, Ho⟩, Hv⟩ Hk
  subst hfs hfo
  iapply (SparseCore.wp_indirectGatherLocal (EC (F := F)) 𝒱₀ c none (hg := hg) (default : HIx 2) dst.view.dmaCredit hN hs hin) $$ [Hs Hd Ho Hv]
  · isplitl [Hs]; · iexact Hs
    isplitl [Hd]; · iexact Hd
    isplitl [Ho]; · iexact Ho
    iexact Hv
  iintro Hfl
  iapply Hk
  refine (Transfers.Flight_mono (EC (F := F)) c ?_)
  iintro ⟨Hd, Hs, Ho⟩
  isplitl [Hd]
  · iexists _; isplitr
    swap; · iexact Hd
    ipureintro; rw [View.read_write_univ]
  isplitl [Hs]
  · iexists _; isplitr
    swap; · iexact Hs
    ipureintro; rfl
  · iexists _; isplitr
    swap; · iexact Ho
    ipureintro; rfl

end Steps

end Cert.Proof.Sc

end
-- ==== Proof.Body.lean ====
/-
  The dense layers' kernel body on one block: from its nine operand blocks it leaves, in the result's block, the
  softmax of the two dense layers (`mlp`).
-/
module

public import proofs.«01_k».proof.Proof.Setup
public import Idealize.ShloMosaic.Lib.Pipeline.TableIdle
public import Idealize.ShloMosaic.Lib.Pipeline.Value

@[expose] public section

noncomputable section

namespace Cert.Proof.Tc

open Cert.KernelIdeal Cert.KernelIdeal.Gen Cert.Proof.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The left half of a gathered block: the columns the table has. -/
abbrev half (X : S1024x128.Idx → Elt F .f32) : S1024x64.Idx → Elt F .f32 :=
  View.ld (Val := Elt F) (e' := .f32) X (Rect.unit (s := S1024x128) ![0, 0] S1024x64.size inb_S1024x128_S1024x64_0_0)

/-- Sixty-four rows of the first layer's weights. -/
abbrev wrows (X : S320x128.Idx → Elt F .f32) (off : Fin 2 → Nat) (h : ∀ a, off a + S64x128.size a ≤ S320x128.size a) : S64x128.Idx → Elt F .f32 :=
  View.ld (Val := Elt F) (e' := .f32) X (Rect.unit (s := S320x128) off S64x128.size h)

/-- The result's block as a function of the operands' blocks. -/
def mlp (X0 X1 X2 X3 X4 : S1024x128.Idx → Elt F .f32) (X5 : S320x128.Idx → Elt F .f32) (X6 : S1x128.Idx → Elt F .f32)
    (X7 : S128x1000.Idx → Elt F .f32) (X8 : S1000x1.Idx → Elt F .f32) : S1000x1024.Idx → Elt F .f32 :=
  k1_pay1 (k1_pay2 X6 (half X0) (wrows X5 ![0, 0] inb_S320x128_S64x128_0_0) (half X1) (wrows X5 ![64, 0] inb_S320x128_S64x128_64_0)
    (half X2) (wrows X5 ![128, 0] inb_S320x128_S64x128_128_0) (half X3) (wrows X5 ![192, 0] inb_S320x128_S64x128_192_0)
    (half X4) (wrows X5 ![256, 0] inb_S320x128_S64x128_256_0)) X7 X8

theorem hz : (![0, 0] : Fin 2 → Nat) = fun _ => 0 := funext fun a => by fin_cases a <;> rfl

variable [∀ e, Nonempty (Elt F e)]

set_option maxHeartbeats 4000000 in
theorem body_run (c : Dev nD) (i : grid1.Coords)
    (M0 : Memref sig .tc .vmem S1024x128 .f32) (h0 : M0.IsWhole) (M1 : Memref sig .tc .vmem S1024x128 .f32) (h1 : M1.IsWhole)
    (M2 : Memref sig .tc .vmem S1024x128 .f32) (h2 : M2.IsWhole) (M3 : Memref sig .tc .vmem S1024x128 .f32) (h3 : M3.IsWhole)
    (M4 : Memref sig .tc .vmem S1024x128 .f32) (h4 : M4.IsWhole) (M5 : Memref sig .tc .vmem S320x128 .f32) (h5 : M5.IsWhole)
    (M6 : Memref sig .tc .vmem S1x128 .f32) (h6 : M6.IsWhole) (M7 : Memref sig .tc .vmem S128x1000 .f32) (h7 : M7.IsWhole)
    (M8 : Memref sig .tc .vmem S1000x1 .f32) (h8 : M8.IsWhole) (M9 : Memref sig .tc .vmem S1000x1024 .f32) (h9 : M9.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ)))
    (f8 : Buf (Elt F) (M8.view.loc (c : Thread nD τ))) (f9 : Buf (Elt F) (M9.view.loc (c : Thread nD τ))) (Q : PUnit → sProp 𝕄) :
    iprop((M0.view.loc (c : Thread nD τ) ↦{fullShare} f0) ∗ (M1.view.loc (c : Thread nD τ) ↦{fullShare} f1) ∗ (M2.view.loc (c : Thread nD τ) ↦{fullShare} f2)
        ∗ (M3.view.loc (c : Thread nD τ) ↦{fullShare} f3) ∗ (M4.view.loc (c : Thread nD τ) ↦{fullShare} f4) ∗ (M5.view.loc (c : Thread nD τ) ↦{fullShare} f5)
        ∗ (M6.view.loc (c : Thread nD τ) ↦{fullShare} f6) ∗ (M7.view.loc (c : Thread nD τ) ↦{fullShare} f7) ∗ (M8.view.loc (c : Thread nD τ) ↦{fullShare} f8)
        ∗ (M9.view.loc (c : Thread nD τ) ↦{fullShare} f9)
        ∗ (∀ W : Buf (Elt F) (M9.view.loc (c : Thread nD τ)), iprop(⌜M9.view.read (Elt F) W = mlp (M0.view.read (Elt F) f0) (M1.view.read (Elt F) f1) (M2.view.read (Elt F) f2)
              (M3.view.read (Elt F) f3) (M4.view.read (Elt F) f4) (M5.view.read (Elt F) f5) (M6.view.read (Elt F) f6) (M7.view.read (Elt F) f7) (M8.view.read (Elt F) f8)⌝
            ∗ (M0.view.loc (c : Thread nD τ) ↦{fullShare} f0) ∗ (M1.view.loc (c : Thread nD τ) ↦{fullShare} f1) ∗ (M2.view.loc (c : Thread nD τ) ↦{fullShare} f2)
            ∗ (M3.view.loc (c : Thread nD τ) ↦{fullShare} f3) ∗ (M4.view.loc (c : Thread nD τ) ↦{fullShare} f4) ∗ (M5.view.loc (c : Thread nD τ) ↦{fullShare} f5)
            ∗ (M6.view.loc (c : Thread nD τ) ↦{fullShare} f6) ∗ (M7.view.loc (c : Thread nD τ) ↦{fullShare} f7) ∗ (M8.view.loc (c : Thread nD τ) ↦{fullShare} f8)
            ∗ (M9.view.loc (c : Thread nD τ) ↦{fullShare} W)) -∗ Q ⟨⟩))
      ⊢ wp frame (wpE (defs₀ (F := F)) 𝒱₀ (c : Thread nD τ) none) Set.univ (cc1__mlp_body i M0 h0 M1 h1 M2 h2 M3 h3 M4 h4 M5 h5 M6 h6 M7 h7 M8 h8 M9 h9) Q := by
  rw [cc1__mlp_body_eq_skeleton]
  iintro ⟨H0, H1, H2, H3, H4, H5, H6, H7, H8, H9, Hk⟩
  sl_exec!
  sl_step
  iapply Hk
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  rw [View.read_writes_junk_eq_canon]
  unfold body_run.sl.H9_1
  rw [View.canon_unit_zero hz]
  unfold body_run.sl.r body_run.sl.r_1
  simp only [View.readAt_eq_ld]
  rw [View.ld_unit_zero hz, View.ld_unit_zero hz, View.ld_unit_zero hz]
  rfl

theorem alias_eq (i : grid3.Coords) (M : Memref sig .tc .hbm S1000x16384 .f32) (h : M.IsWhole)
    (M0 : Memref sig .tc .vmem S1024x128 .f32) (h0 : M0.IsWhole) (M1 : Memref sig .tc .vmem S1024x128 .f32) (h1 : M1.IsWhole)
    (M2 : Memref sig .tc .vmem S1024x128 .f32) (h2 : M2.IsWhole) (M3 : Memref sig .tc .vmem S1024x128 .f32) (h3 : M3.IsWhole)
    (M4 : Memref sig .tc .vmem S1024x128 .f32) (h4 : M4.IsWhole) (M5 : Memref sig .tc .vmem S320x128 .f32) (h5 : M5.IsWhole)
    (M6 : Memref sig .tc .vmem S1x128 .f32) (h6 : M6.IsWhole) (M7 : Memref sig .tc .vmem S128x1000 .f32) (h7 : M7.IsWhole)
    (M8 : Memref sig .tc .vmem S1000x1 .f32) (h8 : M8.IsWhole) (M9 : Memref sig .tc .vmem S1000x1024 .f32) (h9 : M9.IsWhole) :
    cc3__mlp_body_alias (F := F) i M h M0 h0 M1 h1 M2 h2 M3 h3 M4 h4 M5 h5 M6 h6 M7 h7 M8 h8 M9 h9
      = cc1__mlp_body i M0 h0 M1 h1 M2 h2 M3 h3 M4 h4 M5 h5 M6 h6 M7 h7 M8 h8 M9 h9 := rfl

/-- A whole buffer's memref held at contents is the buffer held whole, at what reads to them. -/
theorem owns_isWhole (c : Dev nD) {sp : Space} {s : Shape} {e : EltTy} (M : Memref sig .tc sp s e) (h : M.IsWhole) (X : s.Idx → Elt F e) :
    (owns (c : Thread nD τ) M fullShare X : sProp 𝕄)
      = iprop(∃ f : Buf (Elt F) (M.view.loc (c : Thread nD τ)), ⌜M.view.read (Elt F) f = X⌝ ∗ (M.view.loc (c : Thread nD τ) ↦{fullShare} f)) := by
  unfold owns; rw [h.set_eq_univ]

/-- `body_run` over the blocks' contents. -/
theorem body_owns (c : Dev nD) (i : grid1.Coords)
    (M0 : Memref sig .tc .vmem S1024x128 .f32) (h0 : M0.IsWhole) (M1 : Memref sig .tc .vmem S1024x128 .f32) (h1 : M1.IsWhole) (M2 : Memref sig .tc .vmem S1024x128 .f32) (h2 : M2.IsWhole)
    (M3 : Memref sig .tc .vmem S1024x128 .f32) (h3 : M3.IsWhole) (M4 : Memref sig .tc .vmem S1024x128 .f32) (h4 : M4.IsWhole) (M5 : Memref sig .tc .vmem S320x128 .f32) (h5 : M5.IsWhole)
    (M6 : Memref sig .tc .vmem S1x128 .f32) (h6 : M6.IsWhole) (M7 : Memref sig .tc .vmem S128x1000 .f32) (h7 : M7.IsWhole)
    (M8 : Memref sig .tc .vmem S1000x1 .f32) (h8 : M8.IsWhole) (M9 : Memref sig .tc .vmem S1000x1024 .f32) (h9 : M9.IsWhole)
    (X0 X1 X2 X3 X4 : S1024x128.Idx → Elt F .f32) (X5 : S320x128.Idx → Elt F .f32) (X6 : S1x128.Idx → Elt F .f32)
    (X7 : S128x1000.Idx → Elt F .f32) (X8 : S1000x1.Idx → Elt F .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ (∃ Y, owns (c : Thread nD τ) M9 fullShare Y)
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (mlp X0 X1 X2 X3 X4 X5 X6 X7 X8)) -∗ Q ⟨⟩))
      ⊢ wp frame (wpE (defs₀ (F := F)) 𝒱₀ (c : Thread nD τ) none) Set.univ (cc1__mlp_body i M0 h0 M1 h1 M2 h2 M3 h3 M4 h4 M5 h5 M6 h6 M7 h7 M8 h8 M9 h9) Q := by
  rw [owns_isWhole c M0 h0, owns_isWhole c M1 h1, owns_isWhole c M2 h2, owns_isWhole c M3 h3, owns_isWhole c M4 h4, owns_isWhole c M5 h5, owns_isWhole c M6 h6, owns_isWhole c M7 h7, owns_isWhole c M8 h8, owns_isWhole c M9 h9]
  simp only [owns_isWhole c M9 h9]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%Y, %f9, -, H9⟩, Hk⟩
  iapply (body_run c i M0 h0 M1 h1 M2 h2 M3 h3 M4 h4 M5 h5 M6 h6 M7 h7 M8 h8 M9 h9 f0 f1 f2 f3 f4 f5 f6 f7 f8 f9 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %W ⟨%hW, H0, H1, H2, H3, H4, H5, H6, H7, H8, H9⟩
  iapply Hk
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  iexists W
  isplitr
  · ipureintro
    rw [hW, e0, e1, e2, e3, e4, e5, e6, e7, e8]
  iexact H9

/-- The second pipeline's body, which is handed the array it continues, likewise. -/
theorem body_owns_alias (c : Dev nD) (i : grid3.Coords) (M : Memref sig .tc .hbm S1000x16384 .f32) (h : M.IsWhole)
    (M0 : Memref sig .tc .vmem S1024x128 .f32) (h0 : M0.IsWhole) (M1 : Memref sig .tc .vmem S1024x128 .f32) (h1 : M1.IsWhole) (M2 : Memref sig .tc .vmem S1024x128 .f32) (h2 : M2.IsWhole)
    (M3 : Memref sig .tc .vmem S1024x128 .f32) (h3 : M3.IsWhole) (M4 : Memref sig .tc .vmem S1024x128 .f32) (h4 : M4.IsWhole) (M5 : Memref sig .tc .vmem S320x128 .f32) (h5 : M5.IsWhole)
    (M6 : Memref sig .tc .vmem S1x128 .f32) (h6 : M6.IsWhole) (M7 : Memref sig .tc .vmem S128x1000 .f32) (h7 : M7.IsWhole)
    (M8 : Memref sig .tc .vmem S1000x1 .f32) (h8 : M8.IsWhole) (M9 : Memref sig .tc .vmem S1000x1024 .f32) (h9 : M9.IsWhole)
    (X0 X1 X2 X3 X4 : S1024x128.Idx → Elt F .f32) (X5 : S320x128.Idx → Elt F .f32) (X6 : S1x128.Idx → Elt F .f32)
    (X7 : S128x1000.Idx → Elt F .f32) (X8 : S1000x1.Idx → Elt F .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ (∃ Y, owns (c : Thread nD τ) M9 fullShare Y)
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (mlp X0 X1 X2 X3 X4 X5 X6 X7 X8)) -∗ Q ⟨⟩))
      ⊢ wp frame (wpE (defs₀ (F := F)) 𝒱₀ (c : Thread nD τ) none) Set.univ (cc3__mlp_body_alias i M h M0 h0 M1 h1 M2 h2 M3 h3 M4 h4 M5 h5 M6 h6 M7 h7 M8 h8 M9 h9) Q := by
  rw [alias_eq]
  exact body_owns c i M0 h0 M1 h1 M2 h2 M3 h3 M4 h4 M5 h5 M6 h6 M7 h7 M8 h8 M9 h9 X0 X1 X2 X3 X4 X5 X6 X7 X8 Q

end Cert.Proof.Tc

end
-- ==== Proof.Regions.lean ====
/-
  The two TensorCore pipelines: what each point leaves in its blocks, the body at every point, and each pipeline run
  from any contents of the unscoped buffers to those contents with the result's array written.
-/
module

public import proofs.«01_k».proof.Proof.Body
public import proofs.«01_k».proof.Proof.Gen.KernelIdeal.Launch
public import Idealize.ShloMosaic.Lib.Pipeline.FrameBody
public import Idealize.ShloMosaic.Lib.Pipeline.RegionArrays

@[expose] public section

noncomputable section

namespace Cert.Proof.Tc

open Cert.KernelIdeal Cert.KernelIdeal.Gen Cert.Proof.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 2) (Elt F) ℕ UU ℕ

/-! ## The proof data, at an entry valuation -/

variable (V : Dev nD → Valuation τ sig (Elt F)) (O : Dev nD → CellTallies nD τ sig (HIx 2)) (b : ℕ)

/-- What the core may have waited on before the pipeline: whatever sits at or below a level. -/
abbrev low (c : Dev nD) : Set (SemLoc sig × HIx 2) := {p | (K (F := F)).lev (T c, p.1) p.2 ≤ b}

/-- An input's block at a point: the entry contents of its array, read through the block. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))
abbrev blk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- What the body leaves in the result's block at a point. -/
def res1 (c : Dev nD) (t : Fin cfg1.N) : S1000x1024.Idx → Elt F .f32 :=
  mlp (blk1 V c 0 t) (blk1 V c 1 t) (blk1 V c 2 t) (blk1 V c 3 t) (blk1 V c 4 t) (blk1 V c 5 t) (blk1 V c 6 t) (blk1 V c 7 t) (blk1 V c 8 t)
def res3 (c : Dev nD) (t : Fin cfg3.N) : S1000x1024.Idx → Elt F .f32 :=
  mlp (blk3 V c 0 t) (blk3 V c 1 t) (blk3 V c 2 t) (blk3 V c 3 t) (blk3 V c 4 t) (blk3 V c 5 t) (blk3 V c 6 t) (blk3 V c 7 t) (blk3 V c 8 t)

/-- The first pipeline from the valuation: inputs kept, the result's block at `res1`. -/
def dat1 (c : Dev nD) : Dat τ (Elt F) (HIx 2) ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => res1 V c t
  Φ _ := Pipeline.scopedRest (Ix := HIx 2) (Name := ℕ) (U := UU) (Lvl := ℕ) (Val := Elt F) spec1 c
  q w := Pipeline.shareOf spec1 w
  owed _ := O c
  recorded _ := low (F := F) b c

/-- The second pipeline likewise. -/
def dat3 (c : Dev nD) : Dat τ (Elt F) (HIx 2) ℕ UU ℕ cfg3 c where
  A w := V c (Proc.devRef .tc (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => res3 V c t
  Φ _ := Pipeline.scopedRest (Ix := HIx 2) (Name := ℕ) (U := UU) (Lvl := ℕ) (Val := Elt F) spec3 c
  q w := Pipeline.shareOf spec3 w
  owed _ := O c
  recorded _ := low (F := F) b c

/-- The inputs' buffers hold their blocks when the body runs, whether fetched at this point or before. -/
theorem before1 (c : Dev nD) (t : Fin cfg1.N) :
    ((∀ d, (dat1 V O b c).before 0 t d = blk1 V c 0 t) ∧ (∀ d, (dat1 V O b c).before 1 t d = blk1 V c 1 t) ∧ (∀ d, (dat1 V O b c).before 2 t d = blk1 V c 2 t) ∧ (∀ d, (dat1 V O b c).before 3 t d = blk1 V c 3 t) ∧ (∀ d, (dat1 V O b c).before 4 t d = blk1 V c 4 t) ∧ (∀ d, (dat1 V O b c).before 5 t d = blk1 V c 5 t) ∧ (∀ d, (dat1 V O b c).before 6 t d = blk1 V c 6 t) ∧ (∀ d, (dat1 V O b c).before 7 t d = blk1 V c 7 t) ∧ (∀ d, (dat1 V O b c).before 8 t d = blk1 V c 8 t)) :=
  ⟨Dat.before_in_eq_fetched (dat1 V O b c) 0 rfl (fun _ => rfl) (fun _ _ _ => rfl) (fun _ => rfl) t, Dat.before_in_eq_fetched (dat1 V O b c) 1 rfl (fun _ => rfl) (fun _ _ _ => rfl) (fun _ => rfl) t, Dat.before_in_eq_fetched (dat1 V O b c) 2 rfl (fun _ => rfl) (fun _ _ _ => rfl) (fun _ => rfl) t, Dat.before_in_eq_fetched (dat1 V O b c) 3 rfl (fun _ => rfl) (fun _ _ _ => rfl) (fun _ => rfl) t, Dat.before_in_eq_fetched (dat1 V O b c) 4 rfl (fun _ => rfl) (fun _ _ _ => rfl) (fun _ => rfl) t, Dat.before_in_eq_fetched (dat1 V O b c) 5 rfl (fun _ => rfl) (fun _ _ _ => rfl) (fun _ => rfl) t, Dat.before_in_eq_fetched (dat1 V O b c) 6 rfl (fun _ => rfl) (fun _ _ _ => rfl) (fun _ => rfl) t, Dat.before_in_eq_fetched (dat1 V O b c) 7 rfl (fun _ => rfl) (fun _ _ _ => rfl) (fun _ => rfl) t, Dat.before_in_eq_fetched (dat1 V O b c) 8 rfl (fun _ => rfl) (fun _ _ _ => rfl) (fun _ => rfl) t⟩

/-- The body at every point. -/
theorem body_obligation1 (c : Dev nD) : BodyObligation (dat1 V O b c) (defs₀ (F := F)) 𝒱₀ none Set.univ := fun t => by
  obtain ⟨e0, e1, e2, e3, e4, e5, e6, e7, e8⟩ := before1 V O b c t
  rw [bigSep_W1, bigSep_W1]
  simp only [e0, e1, e2, e3, e4, e5, e6, e7, e8]
  rw [show (dat1 V O b c).Φ t.succ = (dat1 V O b c).Φ t.castSucc from rfl,
    show (dat1 V O b c).owesAt none t.succ = (dat1 V O b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_owns c (grid1.coords t) _ _ _ _ _ _ _ _ _ _ _ _ _ _ _ _ _ _ _ _ (blk1 V c 0 t) (blk1 V c 1 t) (blk1 V c 2 t) (blk1 V c 3 t) (blk1 V c 4 t)
    (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The inputs' buffers hold their blocks when the body runs, whether fetched at this point or before. -/
theorem before3 (c : Dev nD) (t : Fin cfg3.N) :
    ((∀ d, (dat3 V O b c).before 0 t d = blk3 V c 0 t) ∧ (∀ d, (dat3 V O b c).before 1 t d = blk3 V c 1 t) ∧ (∀ d, (dat3 V O b c).before 2 t d = blk3 V c 2 t) ∧ (∀ d, (dat3 V O b c).before 3 t d = blk3 V c 3 t) ∧ (∀ d, (dat3 V O b c).before 4 t d = blk3 V c 4 t) ∧ (∀ d, (dat3 V O b c).before 5 t d = blk3 V c 5 t) ∧ (∀ d, (dat3 V O b c).before 6 t d = blk3 V c 6 t) ∧ (∀ d, (dat3 V O b c).before 7 t d = blk3 V c 7 t) ∧ (∀ d, (dat3 V O b c).before 8 t d = blk3 V c 8 t)) :=
  ⟨Dat.before_in_eq_fetched (dat3 V O b c) 0 rfl (fun _ => rfl) (fun _ _ _ => rfl) (fun _ => rfl) t, Dat.before_in_eq_fetched (dat3 V O b c) 1 rfl (fun _ => rfl) (fun _ _ _ => rfl) (fun _ => rfl) t, Dat.before_in_eq_fetched (dat3 V O b c) 2 rfl (fun _ => rfl) (fun _ _ _ => rfl) (fun _ => rfl) t, Dat.before_in_eq_fetched (dat3 V O b c) 3 rfl (fun _ => rfl) (fun _ _ _ => rfl) (fun _ => rfl) t, Dat.before_in_eq_fetched (dat3 V O b c) 4 rfl (fun _ => rfl) (fun _ _ _ => rfl) (fun _ => rfl) t, Dat.before_in_eq_fetched (dat3 V O b c) 5 rfl (fun _ => rfl) (fun _ _ _ => rfl) (fun _ => rfl) t, Dat.before_in_eq_fetched (dat3 V O b c) 6 rfl (fun _ => rfl) (fun _ _ _ => rfl) (fun _ => rfl) t, Dat.before_in_eq_fetched (dat3 V O b c) 7 rfl (fun _ => rfl) (fun _ _ _ => rfl) (fun _ => rfl) t, Dat.before_in_eq_fetched (dat3 V O b c) 8 rfl (fun _ => rfl) (fun _ _ _ => rfl) (fun _ => rfl) t⟩

/-- The body at every point. -/
theorem body_obligation3 (c : Dev nD) : BodyObligation (dat3 V O b c) (defs₀ (F := F)) 𝒱₀ none Set.univ := fun t => by
  obtain ⟨e0, e1, e2, e3, e4, e5, e6, e7, e8⟩ := before3 V O b c t
  rw [bigSep_W3, bigSep_W3]
  simp only [e0, e1, e2, e3, e4, e5, e6, e7, e8]
  rw [show (dat3 V O b c).Φ t.succ = (dat3 V O b c).Φ t.castSucc from rfl,
    show (dat3 V O b c).owesAt none t.succ = (dat3 V O b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_owns_alias c (grid3.coords t) _ _ _ _ _ _ _ _ _ _ _ _ _ _ _ _ _ _ _ _ _ _ (blk3 V c 0 t) (blk3 V c 1 t) (blk3 V c 2 t) (blk3 V c 3 t) (blk3 V c 4 t)
    (blk3 V c 5 t) (blk3 V c 6 t) (blk3 V c 7 t) (blk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## Each pipeline over the unscoped buffers -/

/-- No pipeline prefetches a table. -/
abbrev adm : (p : Fin 2) → (pcfgs (F := F) p).Adm := fun p => (cfgs p).toPCfg_adm

/-- Both pipelines' data. -/
def pdats : (p : Fin 2) → (c : Dev nD) → Dat τ (Elt F) (HIx 2) ℕ UU ℕ (Pipeline.pin (pcfgs (F := F)) adm p) c
  | ⟨0, _⟩ => fun c => dat1 V O b c
  | ⟨1, _⟩ => fun c => dat3 V O b c

/-- The unscoped buffers of a core at a valuation. -/
abbrev ub (c : Dev nD) (V : Valuation τ sig (Elt F)) : sProp 𝕄 := unscopedBufs c (fun b => V (Proc.devRef .tc b))

/-- What the core owes, its waits so far at or below the level. -/
abbrev owing (c : Dev nD) : sProp 𝕄 := iprop(∃ W, ⌜∀ p ∈ W, (K (F := F)).lev (T c, p.1) p.2 ≤ b⌝ ∗ owes (T c) (O c) W)

variable (V' : Dev nD → Valuation τ sig (Elt F))

set_option backward.isDefEq.respectTransparency.types false in
/-- A pipeline from the unscoped buffers at `V` to them at `V'`, which has each of the pipeline's arrays as the
    pipeline leaves it and every other buffer as it was; what the core owes carried along. -/
def reg (p : Fin 2) (hwin : Pipeline.WinFacts₀ (cfgs p).spec) (hsh : Pipeline.SharedIn (cfgs p).spec)
    (hpos : ∀ w : Fin (cfgs p).W, 0 < ((cfgs p).spec w).block.numel) (harr : ∀ w, ((cfgs p).spec w).arr.IsWhole)
    (hst : ∀ (w : Fin (cfgs p).W) (s : Fin ((cfgs p).spec w).nbuf), (((cfgs p).spec w).stage s).IsWhole)
    (hbody : ∀ c, BodyObligation (pdats V O b p c) (defs₀ (F := F)) 𝒱₀ none Set.univ)
    (hA : ∀ c w, (pdats V O b p c).A w = V c (Proc.devRef .tc (Pipeline.arrRef (cfgs p).spec w)))
    (hq : ∀ c w, (pdats V O b p c).q w = Pipeline.shareOf (cfgs p).spec w)
    (howed : ∀ c t, (pdats V O b p c).owed t = O c) (hrec : ∀ c t, (pdats V O b p c).recorded t = low (F := F) b c)
    (hΦ : ∀ c t, (pdats V O b p c).Φ t = Pipeline.scopedRest (Ix := HIx 2) (Name := ℕ) (U := UU) (Lvl := ℕ) (Val := Elt F) (cfgs p).spec c)
    (hO : ∀ c g, O c g none = 0)
    (hV' : ∀ c w, V' c (Proc.devRef .tc (Pipeline.arrRef (cfgs p).spec w)) = (pdats V O b p c).arrAt w (cfgs p).N)
    (hne : ∀ c (r : Ref sig .tc), (∀ w, r ≠ Pipeline.arrRef (cfgs p).spec w) → V' c (Proc.devRef .tc r) = V c (Proc.devRef .tc r)) :
    Pipeline.RegionSeg (pcfgs (F := F)) adm (pdats V O b) none defs₀ 𝒱₀ (K (F := F)).L (K (F := F)).lev p where
  win := hwin
  block_pos := hpos
  stage_whole := hst
  K := PEmpty
  osem k := k.elim
  ho := Pipeline.OwnSemFacts.none _
  hbody c := (hbody c).loose
  hwaits c := Pipeline.cellsWaits_intro _ _ _ _ _ fun w s t => by
    rw [howed c t]; exact (K (F := F)).mayWait_none _ (hO c)
  pre c := iprop(ub c (V c) ∗ owing (F := F) O b c)
  post c := iprop(ub c (V' c) ∗ owing (F := F) O b c)
  X _ := BI.emp
  Y _ := BI.emp
  Z c := Pipeline.unscopedRest (Ix := HIx 2) (Name := ℕ) (U := UU) (Lvl := ℕ) (cfgs p).spec c (fun r => V c (Proc.devRef .tc r))
  hentry c := by
    rw [Pipeline.ownSems0_none, Pipeline.prefHeld_of_none _ rfl]
    have hsplit := Pipeline.arrays_of_unscopedBufs_shared (p := p) (pcfgs (F := F)) adm (pdats V O b) hwin hsh harr c
      (fun w _ => hq c w) (fun r => V c (Proc.devRef .tc r)) (hA c)
    iintro ⟨⟨Hub, %W, %hW, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      iexists W; isplitr; · ipureintro; exact fun p hp => Or.inl (hW p hp)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin : iprop((pdats V O b p c).arrays ((pdats V O b p c).arrAt · (cfgs p).N)
        ∗ Pipeline.unscopedRest (Ix := HIx 2) (Name := ℕ) (U := UU) (Lvl := ℕ) (cfgs p).spec c (fun r => V c (Proc.devRef .tc r)))
        ⊢ ub c (V' c) := by
      unfold ub
      rw [Pipeline.unscopedBufs_split₀ (Pipeline.pin (pcfgs (F := F)) adm) p hwin.arr_unscoped c]
      rw [(pdats V O b p c).arrBufs_eq_arrays hsh harr (fun w _ => hq c w) (fun r => V' c (Proc.devRef .tc r))
        ((pdats V O b p c).arrAt · (cfgs p).N) (fun w => (hV' c w).symm)]
      refine sep_mono .rfl (Entails.of_eq ?_)
      unfold Pipeline.unscopedRest
      refine bigSep_congr fun r hr => ?_
      have h := hne c r fun w h => (Finset.mem_sdiff.mp hr).2 (h ▸ Finset.mem_image.mpr ⟨w, Finset.mem_univ _, rfl⟩)
      dsimp only
      rw [h]
    iintro ⟨Ha, HO, -, Hrest⟩
    imodintro
    isplitl [Ha Hrest]
    · iapply hjoin; isplitl [Ha] <;> iassumption
    unfold Pipeline.Dat.owesAt Pipeline.owesWithin Pipeline.Dat.bound
    rw [howed c (Fin.last _), hrec c (Fin.last _)]
    icases HO with ⟨%W, %hW, HO⟩; iexists W; isplitr
    · ipureintro
      intro q hq'
      rcases hW hq' with h | h
      · exact h
      · obtain ⟨w, s, rfl⟩ := h
        exact Nat.zero_le _
    iexact HO

end Cert.Proof.Tc

end
-- ==== Proof.Pipes.lean ====
/-
  Each TensorCore pipeline as one step of the program: the result's array written, every other buffer kept.
-/
module

public import proofs.«01_k».proof.Proof.Regions

@[expose] public section

noncomputable section

namespace Cert.Proof.Tc

open Cert.KernelIdeal Cert.KernelIdeal.Gen Cert.Proof.Sc
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 2) (Elt F) ℕ UU ℕ

variable (V : Dev nD → Valuation τ sig (Elt F)) (O : Dev nD → CellTallies nD τ sig (HIx 2)) (b : ℕ)

/-- The result's array as a pipeline leaves it. -/
def out1 (c : Dev nD) : S1000x16384.Idx → Elt F .f32 := (dat1 V O b c).arrAt 9 cfg1.N
def out3 (c : Dev nD) : S1000x16384.Idx → Elt F .f32 := (dat3 V O b c).arrAt 9 cfg3.N

/-- The valuation a pipeline leaves. -/
def next1 (c : Dev nD) : Valuation τ sig (Elt F) := Function.update (V c) (Proc.devRef .tc main_v7) (out1 V O b c)
def next3 (c : Dev nD) : Valuation τ sig (Elt F) := Function.update (V c) (Proc.devRef .tc main_v13) (out3 V O b c)

theorem next1_ne (c : Dev nD) (r : Ref sig .tc) (h : r ≠ main_v7) : next1 V O b c (Proc.devRef .tc r) = V c (Proc.devRef .tc r) :=
  Function.update_of_ne (fun e => h (Proc.devRef_injective _ e)) _ _
theorem next3_ne (c : Dev nD) (r : Ref sig .tc) (h : r ≠ main_v13) : next3 V O b c (Proc.devRef .tc r) = V c (Proc.devRef .tc r) :=
  Function.update_of_ne (fun e => h (Proc.devRef_injective _ e)) _ _
theorem next1_out (c : Dev nD) : next1 V O b c (Proc.devRef .tc main_v7) = out1 V O b c := Function.update_self _ _ _
theorem next3_out (c : Dev nD) : next3 V O b c (Proc.devRef .tc main_v13) = out3 V O b c := Function.update_self _ _ _

theorem next1_arr (c : Dev nD) (w : Fin cfg1.W) : next1 V O b c (Proc.devRef .tc (Pipeline.arrRef spec1 w)) = (dat1 V O b c).arrAt w cfg1.N := by
  by_cases h : w = 9
  · subst h; exact next1_out V O b c
  · have hio : (cfg1.win w).isOut = false := by revert w; decide
    rw [(dat1 V O b c).arrAt_in w hio _]
    exact next1_ne V O b c _ (by revert w; decide)
theorem next3_arr (c : Dev nD) (w : Fin cfg3.W) : next3 V O b c (Proc.devRef .tc (Pipeline.arrRef spec3 w)) = (dat3 V O b c).arrAt w cfg3.N := by
  by_cases h : w = 9
  · subst h; exact next3_out V O b c
  · have hio : (cfg3.win w).isOut = false := by revert w; decide
    rw [(dat3 V O b c).arrAt_in w hio _]
    exact next3_ne V O b c _ (by revert w; decide)

variable (hO : ∀ c g, O c g none = 0)

def reg1 := reg V O b (next1 V O b) 0 winFacts₀1 sharedIn1 block_pos1 arr_whole1 stage_whole1 (body_obligation1 V O b) (fun _ _ => rfl) (fun _ _ => rfl)
  (fun _ _ => rfl) (fun _ _ => rfl) (fun _ _ => rfl) hO (next1_arr V O b) (fun c r h => next1_ne V O b c r (h 9))
def reg3 := reg V O b (next3 V O b) 1 winFacts₀3 sharedIn3 block_pos3 arr_whole3 stage_whole3 (body_obligation3 V O b) (fun _ _ => rfl) (fun _ _ => rfl)
  (fun _ _ => rfl) (fun _ _ => rfl) (fun _ _ => rfl) hO (next3_arr V O b) (fun c r h => next3_ne V O b c r (h 9))

/-- A pipeline's share of the launch's ghost state. -/
abbrev ghost (p : Fin 2) (c : Dev nD) : sProp 𝕄 :=
  iprop(Pipeline.cellsGhost (Pipeline.pin (pcfgs (F := F)) adm) EP p c ∗ Pipeline.toksInit (Pipeline.pin (pcfgs (F := F)) adm) EP p c)

theorem wp_region {V' : Dev nD → Valuation τ sig (Elt F)} (p : Fin 2)
    (R : Pipeline.RegionSeg (pcfgs (F := F)) adm (pdats V O b) none defs₀ 𝒱₀ (K (F := F)).L (K (F := F)).lev p) (d : Dev nD)
    (hpre : R.pre d = iprop(ub d (V d) ∗ owing (F := F) O b d)) (hpost : R.post d = iprop(ub d (V' d) ∗ owing (F := F) O b d)) (Φ : PUnit → sProp 𝕄) :
    iprop((iprop(boundary (T d) ∗ ub d (V' d) ∗ owing (F := F) O b d) -∗ Φ ⟨⟩) ∗ boundary (T d) ∗ (ub d (V d) ∗ owing (F := F) O b d)
        ∗ levAts (K (F := F)).L (K (F := F)).lev ∗ ghost (F := F) p d)
      ⊢ wp frame (wpE (D (F := F)) 𝒱 (T d) none) Set.univ (Prog.lift (.customCall (Pipeline.entry p) ())) Φ := by
  have h := Pipeline.RegionSeg.wp (pcfgs (F := F)) adm (pdats V O b) none cellOf_inj EP defs₀ 𝒱₀ (K (F := F)).L (K (F := F)).lev R d none
    (fun _ hu => nomatch hu) (fun x => .ret x) Φ
  rw [hpre, hpost] at h
  refine BIBase.Entails.trans ?_ h
  iintro ⟨Hk, Hb, HP, HL, HG, HT⟩
  isplitl [Hk]
  · iintro H
    rw [show (Prog.ret (PUnit.unit) : Prog (TpuEff nD τ sig (Elt F) (ΛP (F := F)) .tc) PUnit) = pure PUnit.unit from rfl, wp_pure]
    imodintro
    iapply Hk; iexact H
  isplitl [Hb]; · iexact Hb
  isplitl [HP]; · iexact HP
  isplitl [HL]; · iexact HL
  isplitl [HG] <;> iassumption

include hO in
theorem wp_pipe1 (d : Dev nD) (Φ : PUnit → sProp 𝕄) :
    iprop((iprop(boundary (T d) ∗ ub d (next1 V O b d) ∗ owing (F := F) O b d) -∗ Φ ⟨⟩) ∗ boundary (T d) ∗ (ub d (V d) ∗ owing (F := F) O b d)
        ∗ levAts (K (F := F)).L (K (F := F)).lev ∗ ghost (F := F) 0 d)
      ⊢ wp frame (wpE ((K (F := F)).defs (D (F := F))) 𝒱 (T d) none) Set.univ (Prog.lift (.customCall (SparseCore.inner (Pipeline.entry 0)) ())) Φ :=
  (wp_region V O b 0 (reg1 V O b hO) d rfl rfl Φ).trans ((K (F := F)).wp_liftProg (D (F := F)) 𝒱 (T d) Set.univ none (Prog.lift (.customCall (Pipeline.entry 0) ())) Φ)
include hO in
theorem wp_pipe3 (d : Dev nD) (Φ : PUnit → sProp 𝕄) :
    iprop((iprop(boundary (T d) ∗ ub d (next3 V O b d) ∗ owing (F := F) O b d) -∗ Φ ⟨⟩) ∗ boundary (T d) ∗ (ub d (V d) ∗ owing (F := F) O b d)
        ∗ levAts (K (F := F)).L (K (F := F)).lev ∗ ghost (F := F) 1 d)
      ⊢ wp frame (wpE ((K (F := F)).defs (D (F := F))) 𝒱 (T d) none) Set.univ (Prog.lift (.customCall (SparseCore.inner (Pipeline.entry 1)) ())) Φ :=
  (wp_region V O b 1 (reg3 V O b hO) d rfl rfl Φ).trans ((K (F := F)).wp_liftProg (D (F := F)) 𝒱 (T d) Set.univ none (Prog.lift (.customCall (Pipeline.entry 1) ())) Φ)

end Cert.Proof.Tc

end
-- ==== Proof.Tile.lean ====
/-
  One vector subcore's task in a gather call. Tile `(c, s)` gathers five blocks of 256 rows: it fetches a block's row
  numbers into one of two list slots, gathers those rows of the table into one of two row slots, and writes the rows to
  the block of the result — the fetch of the next block and the write-out of the last one under way while the gather of
  this one runs. The loop's invariant says which copies are in flight and what every memref holds; after the loop the
  five blocks of the result are the gathered rows.
-/
module

public import proofs.«01_k».proof.Proof.Setup

@[expose] public section

noncomputable section

namespace Cert.Proof.Sc

open Cert.KernelIdeal Cert.KernelIdeal.Gen Cert.Proof.Words
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The memrefs of a task -/

theorem lm_inb : ∀ k : Fin 2, ∀ a, (![256 * k.val] : Fin 1 → ℕ) a + S256.size a ≤ S512.size a := by decide
theorem rm_inb : ∀ k : Fin 2, ∀ a, (![k.val, 0, 0] : Fin 3 → ℕ) a + S1x256x128.size a ≤ S2x256x128.size a := by decide
theorem im_inb : ∀ b : Fin 160, ∀ a, (![256 * b.val] : Fin 1 → ℕ) a + S256.size a ≤ S40960.size a := by decide +kernel
theorem om_inb : ∀ b : Fin 160, ∀ a, (![256 * b.val, 0] : Fin 2 → ℕ) a + S256x128.size a ≤ S40960x128.size a := by decide +kernel
theorem sm_inb : ∀ k : Fin 2, ∀ a, (![k.val] : Fin 1 → ℕ) a + S1.size a ≤ S2.size a := by decide

/-- Slot `k` of the list scratch. -/
abbrev Lm (lst : Memref sig .scVector .vmem S512 .i32) (k : Fin 2) : Memref sig .scVector .vmem S256 .i32 :=
  lst.slice (Rect.unit (s := S512) ![256 * k.val] S256.size (lm_inb k)) (fun _ => rfl)
/-- Slot `k` of the row scratch. -/
abbrev Rm (rws : Memref sig .scVector .vmem S2x256x128 .f32) (k : Fin 2) : Memref sig .scVector .vmem S256x128 .f32 :=
  (rws.slice (Rect.unit (s := S2x256x128) ![k.val, 0, 0] S1x256x128.size (rm_inb k)) (fun _ => rfl)).squeeze S256x128 squeezes_S1x256x128_S256x128
/-- Block `b` of the row numbers. -/
abbrev Im (ids : Memref sig .scVector .hbm S40960 .i32) (b : Fin 160) : Memref sig .scVector .hbm S256 .i32 :=
  ids.slice (Rect.unit (s := S40960) ![256 * b.val] S256.size (im_inb b)) (fun _ => rfl)
/-- Block `b` of the result. -/
abbrev Om (out : Memref sig .scVector .hbm S40960x128 .f32) (b : Fin 160) : Memref sig .scVector .hbm S256x128 .f32 :=
  out.slice (Rect.unit (s := S40960x128) ![256 * b.val, 0] S256x128.size (om_inb b)) (fun _ => rfl)
/-- The whole table, as the task addresses it. -/
abbrev Tm (tab : Memref sig .scVector .hbm S100000x128 .f32) : Memref sig .scVector .hbm S100000x128 .f32 :=
  tab.slice (Rect.unit (s := S100000x128) ![0, 0] S100000x128.size inb_S100000x128_S100000x128_0_0) (fun _ => rfl)
/-- Semaphore `k` of a pair. -/
abbrev Sm (v : DmaSems sig S2) (k : Fin 2) : DmaSem sig :=
  ((v.slice (Rect.unit (s := S2) ![k.val] S1.size (sm_inb k))).squeeze S_ squeezes_S1_S_).sem

theorem Sm_eq (v : DmaSems sig S2) {o : Fin 1 → ℕ} (h : ∀ a, o a + S1.size a ≤ S2.size a) {k : Fin 2} (e : o = ![k.val]) :
    ((v.slice (Rect.unit (s := S2) o S1.size h)).squeeze S_ squeezes_S1_S_).sem = Sm v k := by subst e; rfl
theorem Rm_eq (rws : Memref sig .scVector .vmem S2x256x128 .f32) {o : Fin 3 → ℕ} (h : ∀ a, o a + S1x256x128.size a ≤ S2x256x128.size a) {k : Fin 2}
    (e : o = ![k.val, 0, 0]) :
    (rws.slice (Rect.unit (s := S2x256x128) o S1x256x128.size h) (fun _ => rfl)).squeeze S256x128 squeezes_S1x256x128_S256x128 = Rm rws k := by subst e; rfl
theorem Lm_eq (lst : Memref sig .scVector .vmem S512 .i32) {o : Fin 1 → ℕ} (h : ∀ a, o a + S256.size a ≤ S512.size a) {k : Fin 2} (e : o = ![256 * k.val]) :
    lst.slice (Rect.unit (s := S512) o S256.size h) (fun _ => rfl) = Lm lst k := by subst e; rfl
theorem Im_eq (ids : Memref sig .scVector .hbm S40960 .i32) {o : Fin 1 → ℕ} (h : ∀ a, o a + S256.size a ≤ S40960.size a) {b : Fin 160} (e : o = ![256 * b.val]) :
    ids.slice (Rect.unit (s := S40960) o S256.size h) (fun _ => rfl) = Im ids b := by subst e; rfl
theorem Om_eq (out : Memref sig .scVector .hbm S40960x128 .f32) {o : Fin 2 → ℕ} (h : ∀ a, o a + S256x128.size a ≤ S40960x128.size a) {b : Fin 160}
    (e : o = ![256 * b.val, 0]) :
    out.slice (Rect.unit (s := S40960x128) o S256x128.size h) (fun _ => rfl) = Om out b := by subst e; rfl

/-- The slot of the `n`-th block. -/
def sl (n : ℕ) : Fin 2 := ⟨n % 2, Nat.mod_lt _ (by decide)⟩
theorem sl_add_two (n : ℕ) : sl (n + 1 + 1) = sl n := Fin.ext (by simp only [sl]; omega)

/-- The rows of the table that a block's row numbers name. -/
abbrev gath (X : S100000x128.Idx → Elt F .f32) (w : S256.Idx → BitVec 32) (hw : ∀ x, (w x).toNat < 100000) : S256x128.Idx → Elt F .f32 :=
  SparseCore.gatherPayload gathers_S100000x128_S256x128 X (SparseCore.rows (F := F) w rfl hw)

/-- A loop from its invariant. -/
theorem ctl_for {c : Thread nD τ} {α σ : Type} {Q : α → sProp (MT nD τ sig (HIx 2) (Elt F) ℕ UU ℕ)} {w : ℕ} {l : Scf.Loop w} {hok : l.OK} {init : σ}
    {body : Fin l.trips → σ → Prog (TpuEff nD τ sig (Elt F) Λ₀ c.2) σ} {kk : σ → Prog (TpuEff nD τ sig (Elt F) Λ₀ c.2) α}
    (I : ℕ → σ → sProp (MT nD τ sig (HIx 2) (Elt F) ℕ UU ℕ))
    (hbody : ∀ (t : Fin l.trips) (a : σ), I t.val a ⊢ wp frame (wpE (defs₀ (F := F)) 𝒱₀ c none) Set.univ (body t a) (I (t.val + 1))) :
    I 0 init ⊢ iprop((∀ a, I l.trips a -∗ wp frame (wpE (defs₀ (F := F)) 𝒱₀ c none) Set.univ (kk a) Q)
      -∗ wp frame (wpE (defs₀ (F := F)) 𝒱₀ c none) Set.univ (Scf.Loop.for l hok init body >>= kk) Q) :=
  Scf.wp_for_bind _ _ _ _ _ _ hok init body I hbody

section Task

variable (d : Dev nD) (i : grid0.Coords)

abbrev cV (i : grid0.Coords) : Fin τ.nSC := (i 0).castLE hcore0
abbrev jV (i : grid0.Coords) : Fin τ.nSub := (i 1).castLE hsub0
/-- The tile's thread. -/
abbrev th : Thread nD τ := V d (cV i) (jV i)

variable (tab : Memref sig .scVector .hbm S100000x128 .f32) (htab : tab.IsWhole) (ids : Memref sig .scVector .hbm S40960 .i32) (hids : ids.IsWhole)
  (out : Memref sig .scVector .hbm S40960x128 .f32) (hout : out.IsWhole) (lst : Memref sig .scVector .vmem S512 .i32) (hlst : lst.IsWhole)
  (v5 : DmaSems sig S2) (rws : Memref sig .scVector .vmem S2x256x128 .f32) (hrws : rws.IsWhole) (v6 : DmaSems sig S2) (v145 : DmaSems sig S_)
variable (q : PosShare TreeShare) (X : S100000x128.Idx → Elt F .f32) (ix : Fin 160 → S256.Idx → BitVec 32) (hix : ∀ b x, (ix b x).toNat < 100000)

/-- Block `b` of the row numbers, at its contents. -/
abbrev idsAt (b : Fin 160) : sProp 𝕄 := owns (th d i) (Im ids b) fullShare (ix b : S256.Idx → Elt F .i32)
/-- Block `b` of the result, gathered. -/
abbrev outAt (b : Fin 160) : sProp 𝕄 := owns (th d i) (Om out b) fullShare (gath X (ix b) (hix b))
/-- Block `b` of the result, at some contents. -/
abbrev outAny (b : Fin 160) : sProp 𝕄 := iprop(∃ Y, owns (th d i) (Om out b) fullShare Y)
abbrev lstAny (n : ℕ) : sProp 𝕄 := iprop(∃ Y, owns (Val := Elt F) (th d i) (Lm lst (sl n)) fullShare Y)
abbrev rowAny (n : ℕ) : sProp 𝕄 := iprop(∃ Y, owns (Val := Elt F) (th d i) (Rm rws (sl n)) fullShare Y)
abbrev semZ (s : DmaSem sig) : sProp 𝕄 := semVal (th d i, SemLoc.dma s) 0

/-- The fetch of block `t` in flight. -/
abbrev fetching (t : Fin 5) : sProp 𝕄 :=
  Transfers.Flight (EC (F := F)) (th d i) (.dma (Sm v5 (sl t.val))) (default : HIx 2) (Lm lst (sl t.val)).view.dmaCredit
    iprop(owns (th d i) (Lm lst (sl t.val)) fullShare (ix (blk i t) : S256.Idx → Elt F .i32) ∗ idsAt d i ids ix (blk i t))
/-- The write-out of block `t` in flight. -/
abbrev putting (t : Fin 5) : sProp 𝕄 :=
  Transfers.Flight (EC (F := F)) (th d i) (.dma (Sm v6 (sl t.val))) (default : HIx 2) (Om out (blk i t)).view.dmaCredit
    iprop(outAt d i out X ix hix (blk i t) ∗ owns (th d i) (Rm rws (sl t.val)) fullShare (gath X (ix (blk i t)) (hix (blk i t))))

/-- The list's slots at the head of trip `n`: block `n`'s fetch in flight — none after the last —, the other slot idle. -/
def fetchSt (n : ℕ) : sProp 𝕄 :=
  iprop((if h : n < 5 then fetching d i ids lst v5 ix ⟨n, h⟩ else iprop(lstAny d i lst n ∗ semZ d i (Sm v5 (sl n))))
    ∗ lstAny d i lst (n + 1) ∗ semZ d i (Sm v5 (sl (n + 1))))

/-- The row slots: block `n - 1`'s write-out in flight — none at first —, the other slot idle. -/
def putSt (n : ℕ) : sProp 𝕄 :=
  iprop((if h : 0 < n ∧ n - 1 < 5 then putting d i out rws v6 X ix hix ⟨n - 1, h.2⟩ else iprop(rowAny d i rws (n + 1) ∗ semZ d i (Sm v6 (sl (n + 1)))))
    ∗ rowAny d i rws n ∗ semZ d i (Sm v6 (sl n)))

/-- The blocks of row numbers not in flight, of the result written and to be written. -/
def idsRest (P : ℕ → Prop) [DecidablePred P] : sProp 𝕄 := bigSep (Finset.univ.filter fun t : Fin 5 => P t.val) fun t => idsAt d i ids ix (blk i t)
def outDone (n : ℕ) : sProp 𝕄 := bigSep (Finset.univ.filter fun t : Fin 5 => t.val + 1 < n) fun t => outAt d i out X ix hix (blk i t)
def outTodo (n : ℕ) : sProp 𝕄 := bigSep (Finset.univ.filter fun t : Fin 5 => n ≤ t.val) fun t => outAny (F := F) d i out (blk i t)

/-- What the task holds at the head of trip `n`. -/
def inv (O : CellTallies nD τ sig (HIx 2)) (W : Waits sig (HIx 2)) (n : ℕ) (a : BitVec 32 × BitVec 32 × BitVec 32 × BitVec 32 × BitVec 32) : sProp 𝕄 :=
  iprop(⌜a = wst n⌝ ∗ Transfers.MayWaits (th d i) (default : HIx 2) O ∗ owns (th d i) (Tm tab) q X
    ∗ fetchSt d i ids lst v5 ix n ∗ putSt d i out rws v6 X ix hix n
    ∗ idsRest d i ids ix (fun t => t ≠ n) ∗ outDone d i out X ix hix n ∗ outTodo (F := F) d i out n
    ∗ semZ d i v145.sem ∗ ∃ W', ⌜∀ p ∈ W', p ∈ W ∨ p.2 = none⌝ ∗ owes (th d i) O W')

theorem ent_eq {P Q : sProp (MT nD τ sig (HIx 2) (Elt F) ℕ UU ℕ)} (h : P = Q) : P ⊢ Q := by rw [h]

theorem slot_next {n : ℕ} (h : n < 4) : min (n + 1) 5 % 2 = (sl (n + 1)).val := by simp only [sl]; omega
theorem slot_prev {n : ℕ} (h : 0 < n) : (n - 1) % 2 = (sl (n + 1)).val := by simp only [sl]; omega

/-- The slot of fetch `n`: the fetch in flight, or none left and the slot idle. -/
def fetchHd (n : ℕ) : sProp 𝕄 :=
  if h : n < 5 then fetching d i ids lst v5 ix ⟨n, h⟩ else iprop(lstAny d i lst n ∗ semZ d i (Sm v5 (sl n)))

/-- What the first part of trip `t` returns. -/
abbrev r1 (t : Fin k0_t1_loop.trips) : Σ' (_ : k0_chk3 (wst t.val).2.1) (_ : k0_chk2 (wst t.val).2.2.1)
    (_ : k0_chk1 i t (wst t.val).1 (wst t.val).2.1 (wst t.val).2.2.1 (wst t.val).2.2.2.1 (wst t.val).2.2.2.2)
    (_ : BitVec 32) (_ : BitVec 1) (_ : BitVec 1) (_ : BitVec 32) (_ : BitVec 32) (_ : BitVec 32) (_ : BitVec 32), BitVec 1 :=
  let arg5 := Scf.iv 0#32 1#32 t
  let arg10 := (wst t.val).2.2.2.2
  let v66 := Scalar.addi arg10 (v4w i)
  let v68 := Scalar.select 1#1 (Scalar.subi arg10 1#32) arg10
  let v71 := Scalar.addi (Scalar.select (Scalar.cmpi .eq v68 4294967295#32) 4#32 v68) (v4w i)
  let v73 := Scalar.select 1#1 (Scalar.addi arg10 1#32) arg10
  let v76 := Scalar.addi (Scalar.select (Scalar.cmpi .eq v73 5#32) 0#32 v73) (v4w i)
  let v85 := Scalar.andi (Scalar.cmpi .ne v66 v76) (Scalar.xori (Scalar.cmpi .sge arg5 4#32) 1#1)
  ⟨chk3 t, chk2 t, chk1 i t, arg5, Scalar.cmpi .eq arg5 0#32, Scalar.cmpi .eq arg5 4#32, v66, v71, v76,
    Scalar.select (Scalar.andi v85 1#1) (Scalar.addi (wst t.val).1 1#32) (wst t.val).1, Scalar.cmpi .ne v66 v71⟩

/-- What its second part returns. -/
abbrev r2 (t : Fin k0_t1_loop.trips) : BitVec 32 :=
  Scalar.select (Scalar.andi (Scalar.ori (Scalar.cmpi .ne (r1 i t).2.2.2.2.2.2.1 (r1 i t).2.2.2.2.2.2.2.2.1) (r1 i t).2.2.2.2.2.1) 1#1)
    (Scalar.addi (wst t.val).2.2.1 1#32) (wst t.val).2.2.1

theorem lt5 (t : Fin k0_t1_loop.trips) : t.val < 5 := lt_of_lt_of_eq t.isLt trips_eq

theorem ids_take (n : ℕ) (h : n + 1 < 5) :
    idsRest (F := F) d i ids ix (fun t => t ≠ n) ⊢ iprop(idsAt (F := F) d i ids ix (blk i ⟨n + 1, h⟩) ∗ idsRest (F := F) d i ids ix (fun t => t ≠ n ∧ t ≠ n + 1)) := by
  unfold idsRest
  rw [SparseCore.bigSep_erase' (i := (⟨n + 1, h⟩ : Fin 5)) (by simp)]
  refine BI.sep_mono (BI.Entails.refl _) ?_
  rw [show (Finset.univ.filter fun t : Fin 5 => t.val ≠ n).erase ⟨n + 1, h⟩ = Finset.univ.filter fun t : Fin 5 => t.val ≠ n ∧ t.val ≠ n + 1 from by
    ext x; simp only [Finset.mem_erase, Finset.mem_filter, Finset.mem_univ, true_and, ne_eq, Fin.ext_iff]; tauto]
  exact BI.Entails.refl _
theorem ids_none (n : ℕ) (h : ¬n + 1 < 5) :
    idsRest (F := F) d i ids ix (fun t => t ≠ n) ⊢ idsRest (F := F) d i ids ix (fun t => t ≠ n ∧ t ≠ n + 1) := by
  unfold idsRest
  rw [show (Finset.univ.filter fun t : Fin 5 => t.val ≠ n) = Finset.univ.filter fun t : Fin 5 => t.val ≠ n ∧ t.val ≠ n + 1 from by
    ext x; simp only [Finset.mem_filter, Finset.mem_univ, true_and, ne_eq]; have := x.isLt; omega]
theorem ids_back (n : ℕ) (h : n < 5) :
    iprop(idsAt (F := F) d i ids ix (blk i ⟨n, h⟩) ∗ idsRest (F := F) d i ids ix (fun t => t ≠ n ∧ t ≠ n + 1)) ⊢ idsRest (F := F) d i ids ix (fun t => t ≠ n + 1) := by
  unfold idsRest
  rw [SparseCore.bigSep_erase' (s := Finset.univ.filter fun t : Fin 5 => t.val ≠ n + 1) (i := (⟨n, h⟩ : Fin 5)) (by simp)]
  refine BI.sep_mono (BI.Entails.refl _) ?_
  rw [show (Finset.univ.filter fun t : Fin 5 => t.val ≠ n + 1).erase ⟨n, h⟩ = Finset.univ.filter fun t : Fin 5 => t.val ≠ n ∧ t.val ≠ n + 1 from by
    ext x; simp only [Finset.mem_erase, Finset.mem_filter, Finset.mem_univ, true_and, ne_eq, Fin.ext_iff]]
  exact BI.Entails.refl _
theorem todo_take (n : ℕ) (h : n < 5) :
    outTodo (F := F) d i out n ⊢ iprop(outAny (F := F) d i out (blk i ⟨n, h⟩) ∗ outTodo (F := F) d i out (n + 1)) := by
  unfold outTodo
  rw [SparseCore.bigSep_erase' (i := (⟨n, h⟩ : Fin 5)) (by simp)]
  refine BI.sep_mono (BI.Entails.refl _) ?_
  rw [show (Finset.univ.filter fun t : Fin 5 => n ≤ t.val).erase ⟨n, h⟩ = Finset.univ.filter fun t : Fin 5 => n + 1 ≤ t.val from by
    ext x; simp only [Finset.mem_erase, Finset.mem_filter, Finset.mem_univ, true_and, ne_eq, Fin.ext_iff]; omega]
  exact BI.Entails.refl _
theorem done_put (n : ℕ) (hn : 0 < n) (h : n - 1 < 5) :
    iprop(outAt d i out X ix hix (blk i ⟨n - 1, h⟩) ∗ outDone d i out X ix hix n) ⊢ outDone d i out X ix hix (n + 1) := by
  unfold outDone
  rw [SparseCore.bigSep_erase' (s := Finset.univ.filter fun t : Fin 5 => t.val + 1 < n + 1) (i := (⟨n - 1, h⟩ : Fin 5)) (by simp; omega)]
  refine BI.sep_mono (BI.Entails.refl _) ?_
  rw [show (Finset.univ.filter fun t : Fin 5 => t.val + 1 < n + 1).erase ⟨n - 1, h⟩ = Finset.univ.filter fun t : Fin 5 => t.val + 1 < n from by
    ext x; simp only [Finset.mem_erase, Finset.mem_filter, Finset.mem_univ, true_and, ne_eq, Fin.ext_iff]; omega]
  exact BI.Entails.refl _
theorem done_none : outDone d i out X ix hix 0 ⊢ outDone d i out X ix hix 1 := by
  unfold outDone
  rw [show (Finset.univ.filter fun t : Fin 5 => t.val + 1 < 0) = Finset.univ.filter fun t : Fin 5 => t.val + 1 < 1 from by decide]

/-- The first part of a trip: the next block's fetch begun, but for the last trip. -/
theorem part1 (t : Fin k0_t1_loop.trips) (Φ : _ → sProp 𝕄) :
    iprop((lstAny d i lst (t.val + 1) ∗ semZ d i (Sm v5 (sl (t.val + 1))) ∗ idsRest (F := F) d i ids ix (fun n => n ≠ t.val))
      ∗ (iprop(fetchHd d i ids lst v5 ix (t.val + 1) ∗ idsRest (F := F) d i ids ix (fun n => n ≠ t.val ∧ n ≠ t.val + 1)) -∗ Φ (r1 i t)))
    ⊢ wp frame (wpE (defs₀ (F := F)) 𝒱₀ (th d i) none) Set.univ
          (k0_part1_skel i tab htab ids hids out hout lst hlst v5 rws hrws v6 v145 (v4w i) 0#32 1#32 t (wst t.val).1 (wst t.val).2.1 (wst t.val).2.2.1 (wst t.val).2.2.2.1 (wst t.val).2.2.2.2) Φ := by
  unfold k0_part1_skel
  iintro ⟨⟨Hl, Hs, Hids⟩, HQ⟩
  iapply (ctl_assume (chk3 t))
  iapply (ctl_assume (chk2 t))
  iapply (ctl_assume (chk1 i t))
  by_cases ht : t.val < 4
  · iapply (ctl_pos ((cond1_iff i t).2 ht))
    ihave Hids' := (ids_take (F := F) d i ids ix t.val (by omega)) $$ Hids
    icases Hids' with ⟨Hid, Hids⟩
    iapply (wp_copy (s := S256) (e := .i32) (Im_eq ids _ (b := blk i ⟨t.val + 1, by omega⟩) (off5 i t ht)) (Lm_eq lst _ (k := sl (t.val + 1)) ((off4 t).trans (by rw [slot_next ht])))
      (Sm_eq v5 _ (k := sl (t.val + 1)) ((off6 t).trans (by rw [slot_next ht]))) fullShare (ix (blk i ⟨t.val + 1, by omega⟩)) (View.dmaCredit_pos _ (by decide))) $$ [Hl Hs Hid]
    · isplitl [Hid]; · iexact Hid
      isplitl [Hl]; · iexact Hl
      iexact Hs
    iintro Hfl
    iapply ctl_pure
    iapply HQ
    isplitr [Hids]
    · unfold fetchHd; rw [dif_pos (by omega)]; iexact Hfl
    · iexact Hids
  · iapply (ctl_neg (fun h => ht ((cond1_iff i t).1 h)))
    iapply ctl_pure
    iapply HQ
    isplitr [Hids]
    · unfold fetchHd; rw [dif_neg (by omega)]
      isplitl [Hl]; · iexact Hl
      iexact Hs
    · iapply (ids_none (F := F) d i ids ix t.val (by omega)) $$ Hids

/-- The second part of a trip: the block's row numbers arrived, its rows gathered, their write-out begun. -/
theorem part2 (t : Fin k0_t1_loop.trips) (Φ : _ → sProp 𝕄) {O : CellTallies nD τ sig (HIx 2)} {W W₀ : Waits sig (HIx 2)}
    (hW : ∀ p ∈ W, p ∈ W₀ ∨ p.2 = none) :
    iprop((Transfers.MayWaits (th d i) (default : HIx 2) O ∗ owns (th d i) (Tm tab) q X ∗ fetching d i ids lst v5 ix ⟨t.val, lt5 t⟩
        ∗ rowAny d i rws t.val ∗ semZ d i (Sm v6 (sl t.val)) ∗ outAny (F := F) d i out (blk i ⟨t.val, lt5 t⟩) ∗ semZ d i v145.sem ∗ owes (th d i) O W)
      ∗ (iprop(owns (th d i) (Tm tab) q X ∗ lstAny d i lst t.val ∗ semZ d i (Sm v5 (sl t.val)) ∗ idsAt (F := F) d i ids ix (blk i ⟨t.val, lt5 t⟩)
          ∗ putting d i out rws v6 X ix hix ⟨t.val, lt5 t⟩ ∗ semZ d i v145.sem ∗ ∃ W', ⌜∀ p ∈ W', p ∈ W₀ ∨ p.2 = none⌝ ∗ owes (th d i) O W')
        -∗ Φ (r2 i t)))
    ⊢ wp frame (wpE (defs₀ (F := F)) 𝒱₀ (th d i) none) Set.univ
          (k0_part2_skel i tab htab ids hids out hout lst hlst v5 rws hrws v6 v145 t (wst t.val).1 (wst t.val).2.1 (wst t.val).2.2.1 (wst t.val).2.2.2.1 (wst t.val).2.2.2.2
            (r1 i t).1 (r1 i t).2.1 (r1 i t).2.2.1 (r1 i t).2.2.2.1 (r1 i t).2.2.2.2.1 (r1 i t).2.2.2.2.2.1 (r1 i t).2.2.2.2.2.2.1 (r1 i t).2.2.2.2.2.2.2.1 (r1 i t).2.2.2.2.2.2.2.2.1 (r1 i t).2.2.2.2.2.2.2.2.2.2) Φ := by
  unfold k0_part2_skel
  iintro ⟨⟨#Hmw, Ht, Hf, Hr, Hs6, Ho, Hg, HO⟩, HQ⟩
  iapply (ctl_pos (cond2 i t))
  iapply (wp_await (Lm_eq lst _ (k := sl t.val) (off7 t)) (Sm_eq v5 _ (k := sl t.val) (off9 t))) $$ [Hf HO]
  · isplitr; · iexact Hmw
    isplitl [Hf]; · iexact Hf
    iexact HO
  iintro ⟨⟨Hl, Hid⟩, Hs5, HO⟩
  iapply ctl_same
  iapply (wp_gather (c := th d i) (sp := .hbm) (s₀ := S100000x128) (s := S256x128) (si := S256) (e := .f32) (src' := Tm tab) rfl (Rm_eq rws _ (k := sl t.val) (off10 t)) (Lm_eq lst _ (k := sl t.val) (off11 t)) q fullShare X (ix (blk i ⟨t.val, lt5 t⟩))
    (SparseCore.sum_rowCredit_eq_dmaCredit _ _ (fun _ => rfl)) (by decide) (hix _)) $$ [Ht Hr Hl Hg]
  · isplitl [Ht]; · iexact Ht
    isplitl [Hr]; · iexact Hr
    isplitl [Hl]; · iexact Hl
    iexact Hg
  iintro Hfl
  iapply (wp_await (c := th d i) (s := S256x128) (e := .f32) (srcw := Tm tab) (Rm_eq rws _ (k := sl t.val) (off10 t)) (rfl : v145.sem = v145.sem)) $$ [Hfl HO]
  · isplitr; · iexact Hmw
    isplitl [Hfl]; · iexact Hfl
    iexact HO
  iintro ⟨⟨Hr, Ht, Hl⟩, Hg, HO⟩
  iapply ctl_same
  iapply (ctl_pos (cond5 i t))
  iapply (wp_copy (s := S256x128) (e := .f32) (Rm_eq rws _ (k := sl t.val) (off12 t)) (Om_eq out _ (b := blk i ⟨t.val, lt5 t⟩) (off13 i t))
    (Sm_eq v6 _ (k := sl t.val) (off14 t)) fullShare (gath X (ix (blk i ⟨t.val, lt5 t⟩)) (hix _)) (View.dmaCredit_pos _ (by decide))) $$ [Hr Hs6 Ho]
  · isplitl [Hr]; · iexact Hr
    isplitl [Ho]; · iexact Ho
    iexact Hs6
  iintro Hp
  iapply ctl_pure
  iapply HQ
  isplitl [Ht]; · iexact Ht
  isplitl [Hl]; · iexists _; iexact Hl
  isplitl [Hs5]; · iexact Hs5
  isplitl [Hid]; · iexact Hid
  isplitl [Hp]; · iexact Hp
  isplitl [Hg]; · iexact Hg
  iexists _
  isplitr
  swap; · iexact HO
  ipureintro
  intro p hp
  rcases Finset.mem_insert.mp hp with rfl | hp
  · exact Or.inr rfl
  rcases Finset.mem_insert.mp hp with rfl | hp
  · exact Or.inr rfl
  exact hW p hp

/-- The slot of the last write-out: it in flight, or none begun and the slot idle. -/
def putHd (n : ℕ) : sProp 𝕄 :=
  if h : 0 < n ∧ n - 1 < 5 then putting d i out rws v6 X ix hix ⟨n - 1, h.2⟩ else iprop(rowAny (F := F) d i rws (n + 1) ∗ semZ d i (Sm v6 (sl (n + 1))))
theorem putHd_pos (n : ℕ) (h0 : 0 < n) (h : n - 1 < 5) : putHd d i out rws v6 X ix hix n ⊢ putting d i out rws v6 X ix hix ⟨n - 1, h⟩ := by
  unfold putHd; rw [dif_pos ⟨h0, h⟩]
theorem putHd_zero (n : ℕ) (h0 : ¬0 < n) : putHd d i out rws v6 X ix hix n ⊢ iprop(rowAny (F := F) d i rws (n + 1) ∗ semZ d i (Sm v6 (sl (n + 1)))) := by
  unfold putHd; rw [dif_neg (fun h => h0 h.1)]
theorem putHd_idle (n : ℕ) (h0 : 0 < n) :
    iprop((∃ Y, owns (Val := Elt F) (th d i) (Rm rws (sl (n - 1))) fullShare Y) ∗ semZ d i (Sm v6 (sl (n - 1))))
      ⊢ iprop(rowAny (F := F) d i rws (n + 1) ∗ semZ d i (Sm v6 (sl (n + 1)))) := by
  rw [show sl (n - 1) = sl (n + 1) from Fin.ext (slot_prev h0)]
theorem done_zero (n : ℕ) (h0 : ¬0 < n) : outDone d i out X ix hix n ⊢ outDone d i out X ix hix (n + 1) := by
  obtain rfl : n = 0 := by omega
  exact done_none d i out X ix hix
theorem inv_open (O : CellTallies nD τ sig (HIx 2)) (W : Waits sig (HIx 2)) (t : Fin k0_t1_loop.trips) :
    inv d i tab ids out lst v5 rws v6 v145 q X ix hix O W t.val (wst t.val)
      = iprop(⌜wst t.val = wst t.val⌝ ∗ Transfers.MayWaits (th d i) (default : HIx 2) O ∗ owns (th d i) (Tm tab) q X
    ∗ (fetching d i ids lst v5 ix ⟨t.val, lt5 t⟩ ∗ lstAny (F := F) d i lst (t.val + 1) ∗ semZ d i (Sm v5 (sl (t.val + 1))))
    ∗ (putHd d i out rws v6 X ix hix t.val ∗ rowAny (F := F) d i rws t.val ∗ semZ d i (Sm v6 (sl t.val)))
    ∗ idsRest d i ids ix (fun n => n ≠ t.val) ∗ outDone d i out X ix hix t.val ∗ outTodo (F := F) d i out t.val
    ∗ semZ d i v145.sem ∗ ∃ W', ⌜∀ p ∈ W', p ∈ W ∨ p.2 = none⌝ ∗ owes (th d i) O W') := by
  unfold inv fetchSt putSt putHd
  rw [dif_pos (lt5 t)]
theorem inv_intro (O : CellTallies nD τ sig (HIx 2)) (W : Waits sig (HIx 2)) (n : ℕ) (hn : n < 5) (a : BitVec 32 × BitVec 32 × BitVec 32 × BitVec 32 × BitVec 32) :
    iprop(⌜a = wst (n + 1)⌝ ∗ Transfers.MayWaits (th d i) (default : HIx 2) O ∗ owns (th d i) (Tm tab) q X
    ∗ (fetchHd d i ids lst v5 ix (n + 1) ∗ lstAny (F := F) d i lst n ∗ semZ d i (Sm v5 (sl n)))
    ∗ (putting d i out rws v6 X ix hix ⟨n, hn⟩ ∗ rowAny (F := F) d i rws (n + 1) ∗ semZ d i (Sm v6 (sl (n + 1))))
    ∗ idsRest d i ids ix (fun t => t ≠ n + 1) ∗ outDone d i out X ix hix (n + 1) ∗ outTodo (F := F) d i out (n + 1)
    ∗ semZ d i v145.sem ∗ ∃ W', ⌜∀ p ∈ W', p ∈ W ∨ p.2 = none⌝ ∗ owes (th d i) O W')
    ⊢ inv d i tab ids out lst v5 rws v6 v145 q X ix hix O W (n + 1) a := by
  unfold inv fetchSt putSt fetchHd
  rw [sl_add_two, dif_pos (c := 0 < n + 1 ∧ n + 1 - 1 < 5) ⟨by omega, by omega⟩, show lstAny (F := F) d i lst (n + 1 + 1) = lstAny d i lst n from by unfold lstAny; rw [sl_add_two]]
  exact ent_eq rfl

theorem trip_parts (O : CellTallies nD τ sig (HIx 2)) (W : Waits sig (HIx 2)) (t : Fin k0_t1_loop.trips) :
    inv d i tab ids out lst v5 rws v6 v145 q X ix hix O W t.val (wst t.val)
    ⊢ wp frame (wpE (defs₀ (F := F)) 𝒱₀ (th d i) none) Set.univ
          (k0_t1_body i tab htab ids hids out hout lst hlst v5 rws hrws v6 v145 (v4w i) (Scalar.addi 0#32 1#32) 0#32 t
            ((wst t.val).1, (wst t.val).2.1, (wst t.val).2.2.1, (wst t.val).2.2.2.1, (wst t.val).2.2.2.2))
          (inv d i tab ids out lst v5 rws v6 v145 q X ix hix O W (t.val + 1)) := by
  rw [inv_open]
  unfold k0_t1_body
  iintro ⟨-, #Hmw, Ht, ⟨Hf, Hl', Hs5'⟩, ⟨Hp, Hr, Hs6⟩, Hids, Hdone, Htodo, Hg, %W', %hW', HO⟩
  iapply ctl_bind
  rw [k0_part1_eq_skeleton]
  iapply (part1 (F := F) d i tab htab ids hids out hout lst hlst v5 rws hrws v6 v145 ix t)
  isplitl [Hl' Hs5' Hids]
  · isplitl [Hl']; · iexact Hl'
    isplitl [Hs5']; · iexact Hs5'
    iexact Hids
  iintro ⟨Hf', Hids⟩
  iapply ctl_bind
  rw [k0_part2_eq_skeleton]
  ihave Htodo' := (todo_take (F := F) d i out t.val (lt5 t)) $$ Htodo
  icases Htodo' with ⟨Ho, Htodo⟩
  iapply (part2 (F := F) d i tab htab ids hids out hout lst hlst v5 rws hrws v6 v145 q X ix hix t _ hW')
  isplitl [Ht Hf Hr Hs6 Ho Hg HO]
  · isplitr; · iexact Hmw
    isplitl [Ht]; · iexact Ht
    isplitl [Hf]; · iexact Hf
    isplitl [Hr]; · iexact Hr
    isplitl [Hs6]; · iexact Hs6
    isplitl [Ho]; · iexact Ho
    isplitl [Hg]; · iexact Hg
    iexact HO
  iintro ⟨Ht, Hl, Hs5, Hid, Hp', Hg, %W'', %hW'', HO⟩
  ihave Hids' := (ids_back (F := F) d i ids ix t.val (lt5 t)) $$ [Hid Hids]
  · isplitl [Hid]; · iexact Hid
    iexact Hids
  iapply ctl_same
  by_cases h0 : 0 < t.val
  · ihave Hp'' := (putHd_pos (F := F) d i out rws v6 X ix hix t.val h0 (by have := lt5 t; omega)) $$ Hp
    iapply (ctl_pos ((cond7_iff i t).2 h0))
    iapply (wp_await (c := th d i) (s := S256x128) (e := .f32) (Om_eq out _ (b := blk i ⟨t.val - 1, by have := lt5 t; omega⟩) (off16 i t h0)) (Sm_eq v6 _ (k := sl (t.val - 1)) (off17 t))) $$ [Hp'' HO]
    · isplitr; · iexact Hmw
      isplitl [Hp'']; · iexact Hp''
      iexact HO
    iintro ⟨⟨Hd, Hr'⟩, Hs6', HO⟩
    ihave Hp3 := (putHd_idle (F := F) d i rws v6 t.val h0) $$ [Hr' Hs6']
    · isplitl [Hr']; · iexists _; iexact Hr'
      iexact Hs6'
    icases Hp3 with ⟨Hr', Hs6'⟩
    iapply ctl_pure
    ihave Hdone' := (done_put (F := F) d i out X ix hix t.val h0 (by have := lt5 t; omega)) $$ [Hd Hdone]
    · isplitl [Hd]; · iexact Hd
      iexact Hdone
    iapply (inv_intro (F := F) d i tab ids out lst v5 rws v6 v145 q X ix hix O W t.val (lt5 t))
    isplitr
    · ipureintro; exact nxt_eq i t
    isplitr; · iexact Hmw
    isplitl [Ht]; · iexact Ht
    isplitl [Hf' Hl Hs5]
    · isplitl [Hf']; · iexact Hf'
      isplitl [Hl]; · iexact Hl
      iexact Hs5
    isplitl [Hp' Hr' Hs6']
    · isplitl [Hp']; · iexact Hp'
      isplitl [Hr']; · iexact Hr'
      iexact Hs6'
    isplitl [Hids']; · iexact Hids'
    isplitl [Hdone']; · iexact Hdone'
    isplitl [Htodo]; · iexact Htodo
    isplitl [Hg]; · iexact Hg
    iexists _
    isplitr
    swap; · iexact HO
    ipureintro
    intro p hp
    rcases Finset.mem_insert.mp hp with rfl | hp
    · exact Or.inr rfl
    exact hW'' p hp
  · ihave Hp'' := (putHd_zero (F := F) d i out rws v6 X ix hix t.val h0) $$ Hp
    icases Hp'' with ⟨Hr', Hs6'⟩
    ihave Hdone' := (done_zero (F := F) d i out X ix hix t.val h0) $$ Hdone
    iapply (ctl_neg (fun h => h0 ((cond7_iff i t).1 h)))
    iapply ctl_pure
    iapply (inv_intro (F := F) d i tab ids out lst v5 rws v6 v145 q X ix hix O W t.val (lt5 t))
    isplitr
    · ipureintro; exact nxt_eq i t
    isplitr; · iexact Hmw
    isplitl [Ht]; · iexact Ht
    isplitl [Hf' Hl Hs5]
    · isplitl [Hf']; · iexact Hf'
      isplitl [Hl]; · iexact Hl
      iexact Hs5
    isplitl [Hp' Hr' Hs6']
    · isplitl [Hp']; · iexact Hp'
      isplitl [Hr']; · iexact Hr'
      iexact Hs6'
    isplitl [Hids']; · iexact Hids'
    isplitl [Hdone']; · iexact Hdone'
    isplitl [Htodo]; · iexact Htodo
    isplitl [Hg]; · iexact Hg
    iexists _
    isplitr
    swap; · iexact HO
    ipureintro
    exact hW''

/-- One trip of the loop keeps the invariant. -/
theorem trip (O : CellTallies nD τ sig (HIx 2)) (W : Waits sig (HIx 2)) (t : Fin k0_t1_loop.trips) (a : BitVec 32 × BitVec 32 × BitVec 32 × BitVec 32 × BitVec 32) :
    inv d i tab ids out lst v5 rws v6 v145 q X ix hix O W t.val a
    ⊢ wp frame (wpE (defs₀ (F := F)) 𝒱₀ (th d i) none) Set.univ
          (k0_t1_body i tab htab ids hids out hout lst hlst v5 rws hrws v6 v145 (v4w i) (Scalar.addi 0#32 1#32) 0#32 t a)
          (inv d i tab ids out lst v5 rws v6 v145 q X ix hix O W (t.val + 1)) := by
  by_cases ha : a = wst t.val
  · subst ha
    exact trip_parts d i tab htab ids hids out hout lst hlst v5 rws hrws v6 v145 q X ix hix O W t
  · unfold inv
    iintro ⟨%h, -⟩
    exact absurd h ha

/-! ## The whole task -/

/-- The scratch of a task at rest: the list and row slots at some contents, their semaphores zero. -/
def rest : sProp 𝕄 :=
  iprop((lstAny (F := F) d i lst 0 ∗ lstAny (F := F) d i lst 1 ∗ rowAny (F := F) d i rws 0 ∗ rowAny (F := F) d i rws 1)
    ∗ semZ d i (Sm v5 0) ∗ semZ d i (Sm v5 1) ∗ semZ d i (Sm v6 0) ∗ semZ d i (Sm v6 1) ∗ semZ d i v145.sem)

theorem ids_first : (bigSep Finset.univ fun t : Fin 5 => idsAt (F := F) d i ids ix (blk i t))
    ⊢ iprop(idsAt (F := F) d i ids ix (blk i 0) ∗ idsRest (F := F) d i ids ix (fun t => t ≠ 0)) := by
  unfold idsRest
  rw [SparseCore.bigSep_erase' (i := (0 : Fin 5)) (by simp)]
  refine BI.sep_mono (BI.Entails.refl _) ?_
  rw [show (Finset.univ : Finset (Fin 5)).erase 0 = Finset.univ.filter fun t : Fin 5 => t.val ≠ 0 from by decide]
  exact ent_eq rfl
theorem ids_last : idsRest (F := F) d i ids ix (fun t => t ≠ 5) ⊢ bigSep Finset.univ fun t : Fin 5 => idsAt (F := F) d i ids ix (blk i t) := by
  unfold idsRest
  rw [show (Finset.univ.filter fun t : Fin 5 => t.val ≠ 5) = Finset.univ from by decide]
theorem todo_first : (bigSep Finset.univ fun t : Fin 5 => outAny (F := F) d i out (blk i t)) ⊢ outTodo (F := F) d i out 0 := by
  unfold outTodo
  rw [show (Finset.univ.filter fun t : Fin 5 => 0 ≤ t.val) = Finset.univ from by decide]
theorem done_first : (emp : sProp 𝕄) ⊢ outDone d i out X ix hix 0 := by
  unfold outDone
  rw [show (Finset.univ.filter fun t : Fin 5 => t.val + 1 < 0) = ∅ from by decide, BI.bigSep_empty]
  exact ent_eq rfl
theorem done_last : iprop(outAt d i out X ix hix (blk i 4) ∗ outDone d i out X ix hix 5) ⊢ bigSep Finset.univ fun t : Fin 5 => outAt d i out X ix hix (blk i t) := by
  unfold outDone
  rw [SparseCore.bigSep_erase' (s := Finset.univ) (i := (4 : Fin 5)) (by simp)]
  refine BI.sep_mono (BI.Entails.refl _) ?_
  rw [show (Finset.univ : Finset (Fin 5)).erase 4 = Finset.univ.filter fun t : Fin 5 => t.val + 1 < 5 from by decide]
  exact ent_eq rfl

theorem inv_first (O : CellTallies nD τ sig (HIx 2)) (W : Waits sig (HIx 2)) :
    iprop(Transfers.MayWaits (th d i) (default : HIx 2) O ∗ owns (th d i) (Tm tab) q X
    ∗ (fetching d i ids lst v5 ix 0 ∗ lstAny (F := F) d i lst 1 ∗ semZ d i (Sm v5 1))
    ∗ (rowAny (F := F) d i rws 1 ∗ semZ d i (Sm v6 1) ∗ rowAny (F := F) d i rws 0 ∗ semZ d i (Sm v6 0))
    ∗ idsRest (F := F) d i ids ix (fun t => t ≠ 0) ∗ (bigSep Finset.univ fun t : Fin 5 => outAny (F := F) d i out (blk i t))
    ∗ semZ d i v145.sem ∗ owes (th d i) O W)
    ⊢ inv d i tab ids out lst v5 rws v6 v145 q X ix hix O W 0 (wst 0) := by
  unfold inv fetchSt putSt
  rw [dif_pos (c := (0 : ℕ) < 5) (by decide), dif_neg (c := 0 < 0 ∧ 0 - 1 < 5) (by decide)]
  iintro ⟨Hmw, Ht, Hf, ⟨Hr1, Hs1, Hr0, Hs0⟩, Hids, Ho, Hg, HO⟩
  isplitr; · ipureintro; rfl
  isplitl [Hmw]; · iexact Hmw
  isplitl [Ht]; · iexact Ht
  isplitl [Hf]; · iexact Hf
  isplitl [Hr1 Hs1 Hr0 Hs0]
  · isplitl [Hr1 Hs1]
    · isplitl [Hr1]; · iexact Hr1
      iexact Hs1
    · isplitl [Hr0]; · iexact Hr0
      iexact Hs0
  isplitl [Hids]; · iexact Hids
  isplitr
  · iapply (done_first (F := F) d i out X ix hix); iempintro
  isplitl [Ho]; · iapply (todo_first (F := F) d i out) $$ Ho
  isplitl [Hg]; · iexact Hg
  iexists W
  isplitr; · ipureintro; exact fun p hp => Or.inl hp
  iexact HO

theorem inv_last (O : CellTallies nD τ sig (HIx 2)) (W : Waits sig (HIx 2)) {n : ℕ} (hn : n = 5) (a : BitVec 32 × BitVec 32 × BitVec 32 × BitVec 32 × BitVec 32) :
    inv d i tab ids out lst v5 rws v6 v145 q X ix hix O W n a
    ⊢ iprop(⌜a = wst 5⌝ ∗ Transfers.MayWaits (th d i) (default : HIx 2) O ∗ owns (th d i) (Tm tab) q X
    ∗ (lstAny (F := F) d i lst 1 ∗ semZ d i (Sm v5 1) ∗ lstAny (F := F) d i lst 0 ∗ semZ d i (Sm v5 0))
    ∗ (putting d i out rws v6 X ix hix 4 ∗ rowAny (F := F) d i rws 1 ∗ semZ d i (Sm v6 1))
    ∗ (bigSep Finset.univ fun t : Fin 5 => idsAt (F := F) d i ids ix (blk i t)) ∗ outDone d i out X ix hix 5
    ∗ semZ d i v145.sem ∗ ∃ W', ⌜∀ p ∈ W', p ∈ W ∨ p.2 = none⌝ ∗ owes (th d i) O W') := by
  subst hn
  unfold inv fetchSt putSt
  rw [dif_neg (c := (5 : ℕ) < 5) (by decide), dif_pos (c := 0 < 5 ∧ 5 - 1 < 5) (by decide)]
  iintro ⟨Ha, Hmw, Ht, ⟨⟨Hl1, Hs1⟩, Hl0, Hs0⟩, ⟨Hp, Hr, Hs6⟩, Hids, Hd, -, Hg, HO⟩
  isplitl [Ha]; · iexact Ha
  isplitl [Hmw]; · iexact Hmw
  isplitl [Ht]; · iexact Ht
  isplitl [Hl1 Hs1 Hl0 Hs0]
  · isplitl [Hl1]; · iexact Hl1
    isplitl [Hs1]; · iexact Hs1
    isplitl [Hl0]; · iexact Hl0
    iexact Hs0
  isplitl [Hp Hr Hs6]
  · isplitl [Hp]; · iexact Hp
    isplitl [Hr]; · iexact Hr
    iexact Hs6
  isplitl [Hids]; · iapply (ids_last (F := F) d i ids ix) $$ Hids
  isplitl [Hd]; · iexact Hd
  isplitl [Hg]; · iexact Hg
  iexact HO

/-- The task: from five blocks of row numbers and the table it leaves the five blocks of the result at the rows the
    numbers name, and everything else as it was. -/
theorem task (O : CellTallies nD τ sig (HIx 2)) (W : Waits sig (HIx 2)) :
    iprop(Transfers.MayWaits (th d i) (default : HIx 2) O ∗ owns (th d i) (Tm tab) q X ∗ rest (F := F) d i lst v5 rws v6 v145
      ∗ (bigSep Finset.univ fun t : Fin 5 => idsAt (F := F) d i ids ix (blk i t)) ∗ (bigSep Finset.univ fun t : Fin 5 => outAny (F := F) d i out (blk i t))
      ∗ owes (th d i) O W)
    ⊢ wp frame (wpE (defs₀ (F := F)) 𝒱₀ (th d i) none) Set.univ (cc0_gather_kernel i tab htab ids hids out hout lst hlst v5 rws hrws v6 v145) fun _ =>
      iprop(owns (th d i) (Tm tab) q X ∗ rest (F := F) d i lst v5 rws v6 v145
      ∗ (bigSep Finset.univ fun t : Fin 5 => idsAt (F := F) d i ids ix (blk i t)) ∗ (bigSep Finset.univ fun t : Fin 5 => outAt d i out X ix hix (blk i t))
      ∗ ∃ W', ⌜∀ p ∈ W', p ∈ W ∨ p.2 = none⌝ ∗ owes (th d i) O W') := by
  rw [cc0_gather_kernel_eq_skeleton]
  unfold cc0_gather_kernel_skel
  rw [k0_part3_eq_skeleton, k0_part4_eq_skeleton]
  unfold k0_part3_skel k0_part4_skel rest
  iintro ⟨#Hmw, Ht, ⟨⟨Hl0, Hl1, Hr0, Hr1⟩, Hs50, Hs51, Hs60, Hs61, Hg⟩, Hids, Ho, HO⟩
  ihave Hids' := (ids_first (F := F) d i ids ix) $$ Hids
  icases Hids' with ⟨Hid, Hids⟩
  iapply ctl_bind
  iapply (wp_copy (c := th d i) (s := S256) (e := .i32) (Im_eq ids _ (b := blk i 0) (off2 i)) (Lm_eq lst _ (k := sl 0) off1)
      (Sm_eq v5 _ (k := sl 0) off3) fullShare (ix (blk i 0)) (View.dmaCredit_pos _ (by decide))) $$ [Hl0 Hs50 Hid]
  · isplitl [Hid]; · iexact Hid
    isplitl [Hl0]; · iexact Hl0
    iexact Hs50
  iintro Hf
  iapply ctl_pure
  iapply ctl_bind
  ihave HI := (inv_first (F := F) d i tab ids out lst v5 rws v6 v145 q X ix hix O W) $$ [Ht Hf Hl1 Hs51 Hr1 Hs61 Hr0 Hs60 Hids Ho Hg HO]
  · isplitr; · iexact Hmw
    isplitl [Ht]; · iexact Ht
    isplitl [Hf Hl1 Hs51]
    · isplitl [Hf]; · iexact Hf
      isplitl [Hl1]; · iexact Hl1
      iexact Hs51
    isplitl [Hr1 Hs61 Hr0 Hs60]
    · isplitl [Hr1]; · iexact Hr1
      isplitl [Hs61]; · iexact Hs61
      isplitl [Hr0]; · iexact Hr0
      iexact Hs60
    isplitl [Hids]; · iexact Hids
    isplitl [Ho]; · iexact Ho
    isplitl [Hg]; · iexact Hg
    iexact HO
  iapply (ctl_for (inv d i tab ids out lst v5 rws v6 v145 q X ix hix O W)
    (trip (F := F) d i tab htab ids hids out hout lst hlst v5 rws hrws v6 v145 q X ix hix O W)) $$ HI
  iintro %a HI
  ihave HI' := (inv_last (F := F) d i tab ids out lst v5 rws v6 v145 q X ix hix O W trips_eq a) $$ HI
  icases HI' with ⟨%ha, -, Ht, ⟨Hl1, Hs51, Hl0, Hs50⟩, ⟨Hp, Hr1, Hs61⟩, Hids, Hd, Hg, %W', %hW', HO⟩
  subst ha
  iapply (ctl_assume (chk5 i))
  iapply (ctl_assume chk4)
  iapply ctl_pure
  iapply (wp_await (c := th d i) (s := S256x128) (e := .f32) (Om_eq out _ (b := blk i 4) (off19 i)) (Sm_eq v6 _ (k := sl 4) off20)) $$ [Hp HO]
  · isplitr; · iexact Hmw
    isplitl [Hp]; · iexact Hp
    iexact HO
  iintro ⟨⟨Hd', Hr0⟩, Hs60, HO⟩
  iapply ctl_pure
  isplitl [Ht]; · iexact Ht
  isplitl [Hl0 Hl1 Hr0 Hr1 Hs50 Hs51 Hs60 Hs61 Hg]
  · isplitl [Hl0 Hl1 Hr0 Hr1]
    · isplitl [Hl0]; · iexact Hl0
      isplitl [Hl1]; · iexact Hl1
      isplitl [Hr0]; · iexists _; iexact Hr0
      iexact Hr1
    isplitl [Hs50]; · iexact Hs50
    isplitl [Hs51]; · iexact Hs51
    isplitl [Hs60]; · iexact Hs60
    isplitl [Hs61]; · iexact Hs61
    iexact Hg
  isplitl [Hids]; · iexact Hids
  isplitl [Hd Hd']
  · iapply (done_last (F := F) d i out X ix hix)
    isplitl [Hd']; · iexact Hd'
    iexact Hd
  iexists _
  isplitr
  swap; · iexact HO
  ipureintro
  intro p hp
  rcases Finset.mem_insert.mp hp with rfl | hp
  · exact Or.inr rfl
  exact hW' p hp

end Task

end Cert.Proof.Sc

end
-- ==== Proof.Launch.lean ====
/-
  The two gather calls as the launch sees them: what a call is handed and hands back, each vector subcore's task from
  its own share of that, and the whole buffers cut into the tasks' blocks and joined again.
-/
module

public import proofs.«01_k».proof.Proof.Tile

@[expose] public section

noncomputable section

namespace Cert.Proof.Sc

open Cert.KernelIdeal Cert.KernelIdeal.Gen Cert.Proof.Words
open Idealize.ShloMosaic
open Idealize.ShloMosaic.SparseCore (S V T)
open Idealize.ShloMosaic.SparseCore.Cfg (HIx Pay ownCells mem_ownCells ownSems0 ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The operands of each call -/

abbrev tabM : Memref sig .scVector .hbm S100000x128 .f32 := Memref.whole main_v0_scv
def idsM : Fin 2 → Memref sig .scVector .hbm S40960 .i32
  | 0 => Memref.whole main_v3_scv
  | 1 => Memref.whole main_v9_scv
def outM : Fin 2 → Memref sig .scVector .hbm S40960x128 .f32
  | 0 => Memref.whole main_v4_scv
  | 1 => Memref.whole main_v10_scv
def lstR : Fin 2 → Ref sig .scVector
  | 0 => cc0_scoped0
  | 1 => cc2_scoped0
def rwsR : Fin 2 → Ref sig .scVector
  | 0 => cc0_scoped2
  | 1 => cc2_scoped2
def lstM : Fin 2 → Memref sig .scVector .vmem S512 .i32
  | 0 => Memref.whole cc0_scoped0
  | 1 => Memref.whole cc2_scoped0
def rwsM : Fin 2 → Memref sig .scVector .vmem S2x256x128 .f32
  | 0 => Memref.whole cc0_scoped2
  | 1 => Memref.whole cc2_scoped2
def s5 : Fin 2 → DmaSems sig S2
  | 0 => cc0_scoped1
  | 1 => cc2_scoped1
def s6 : Fin 2 → DmaSems sig S2
  | 0 => cc0_scoped3
  | 1 => cc2_scoped3
def sg : Fin 2 → DmaSems sig S_
  | 0 => cc0_scoped4
  | 1 => cc2_scoped4

theorem hids : ∀ q, (idsM q).IsWhole | 0 => Memref.isWhole_whole _ | 1 => Memref.isWhole_whole _
theorem hout : ∀ q, (outM q).IsWhole | 0 => Memref.isWhole_whole _ | 1 => Memref.isWhole_whole _
theorem hlst : ∀ q, (lstM q).IsWhole | 0 => Memref.isWhole_whole _ | 1 => Memref.isWhole_whole _
theorem hrws : ∀ q, (rwsM q).IsWhole | 0 => Memref.isWhole_whole _ | 1 => Memref.isWhole_whole _

/-- The five counters of a task. -/
def semF (q : Fin 2) : Fin 5 → DmaSem sig := ![Sm (s5 q) 0, Sm (s5 q) 1, Sm (s6 q) 0, Sm (s6 q) 1, (sg q).sem]

theorem semF_inj : ∀ q, Function.Injective (semF q) := by decide +kernel
theorem semF_scoped : ∀ q k, (SemLoc.dma (semF q k) : SemLoc sig).isScoped .scVector = true := by decide +kernel
theorem refs_ne : ∀ q, rwsR q ≠ lstR q := by decide

/-! ## What a call takes and brings back -/

theorem nCore_eq : ∀ q, (K (F := F)).nCore q = grid0.bound 0 | 0 => rfl | 1 => rfl
theorem nSub_eq : ∀ q, (K (F := F)).nSub q = grid0.bound 1 | 0 => rfl | 1 => rfl

def coordsV (c : Fin (grid0.bound 0)) (s : Fin (grid0.bound 1)) : grid0.Coords :=
  fun | 0 => c | 1 => s | ⟨_ + 2, h⟩ => absurd h (Nat.not_lt.2 (Nat.le_add_left _ _))

/-- The coordinates of tile `(c, i)`. -/
def co (q : Fin 2) (c : Fin ((K (F := F)).nCore q)) (i : Fin ((K (F := F)).nSub q)) : grid0.Coords :=
  coordsV (Fin.cast (nCore_eq q) c) (Fin.cast (nSub_eq q) i)

/-- The number of a tile, and its share of the table. -/
def tileNo (i : grid0.Coords) : Fin 32 := ⟨(i 1).val + 16 * (i 0).val, by
  have h0 : (i 0).val < 2 := (i 0).isLt
  have h1 : (i 1).val < 16 := (i 1).isLt
  omega⟩
abbrev tq (n : Fin 32) : PosShare TreeShare := pieceOf fullShare 32 (by decide) n

abbrev irect (b : Fin 160) : Rect S40960 := Rect.unit (s := S40960) ![256 * b.val] S256.size (im_inb b)
abbrev orect (b : Fin 160) : Rect S40960x128 := Rect.unit (s := S40960x128) ![256 * b.val, 0] S256x128.size (om_inb b)

variable (X : Dev nD → S100000x128.Idx → Elt F .f32) (w : Fin 2 → Dev nD → S40960.Idx → BitVec 32)
  (hw : ∀ q d x, (w q d x).toNat < 100000)

/-- Block `b` of the row numbers of call `q`. -/
abbrev ixs (q : Fin 2) (d : Dev nD) (b : Fin 160) : S256.Idx → BitVec 32 := fun x => w q d ((irect b).emb x)

abbrev goT (q : Fin 2) (d : Dev nD) (i : grid0.Coords) : sProp 𝕄 :=
  iprop(owns (th d i) (Tm tabM) (tq (tileNo i)) (X d) ∗ (bigSep Finset.univ fun t : Fin 5 => idsAt (F := F) d i (idsM q) (ixs w q d) (blk i t))
    ∗ bigSep Finset.univ fun t : Fin 5 => outAny (F := F) d i (outM q) (blk i t))
abbrev tdT (q : Fin 2) (d : Dev nD) (i : grid0.Coords) : sProp 𝕄 :=
  iprop(owns (th d i) (Tm tabM) (tq (tileNo i)) (X d) ∗ (bigSep Finset.univ fun t : Fin 5 => idsAt (F := F) d i (idsM q) (ixs w q d) (blk i t))
    ∗ bigSep Finset.univ fun t : Fin 5 => outAt d i (outM q) (X d) (ixs w q d) (fun _ _ => hw q d _) (blk i t))

/-- A call takes, for every tile, its share of the table, its row numbers and its blocks of the result at some contents,
    and brings them back with the blocks gathered. -/
def P : (K (F := F)).Pay (nD := nD) (Val := Elt F) (Name := ℕ) (U := UU) where
  st := fun q d c => bigSep Finset.univ fun i => goT X w q d (co (F := F) q c i)
  dn := fun q d c => bigSep Finset.univ fun i => tdT X w hw q d (co (F := F) q c i)
  go := fun q d c i => goT X w q d (co (F := F) q c i)
  td := fun q d c i => tdT X w hw q d (co (F := F) q c i)
  x := fun _ _ => iprop(emp)

instance goT_storable (q : Fin 2) (d : Dev nD) (i : grid0.Coords) : BI.Storable (upEmb : UEmb _ 𝕄) (goT (F := F) X w q d i) := by
  unfold goT; infer_instance
instance tdT_storable (q : Fin 2) (d : Dev nD) (i : grid0.Coords) : BI.Storable (upEmb : UEmb _ 𝕄) (tdT (F := F) X w hw q d i) := by
  unfold tdT; infer_instance
instance P_storable : (P (F := F) X w hw).IsStorable where
  st q d c := (inferInstance : BI.Storable (upEmb : UEmb _ 𝕄) (bigSep Finset.univ fun i => goT X w q d (co (F := F) q c i)))
  dn q d c := (inferInstance : BI.Storable (upEmb : UEmb _ 𝕄) (bigSep Finset.univ fun i => tdT X w hw q d (co (F := F) q c i)))
  go q d c i := goT_storable X w q d _
  td q d c i := tdT_storable X w hw q d _

theorem vecSplit (q : Fin 2) : (K (F := F)).VecSplit' (P X w hw) q := by
  intro d c
  show (bigSep Finset.univ fun i => goT X w q d (co (F := F) q c i)) ⊢ |={Set.univ}=> iprop((bigSep Finset.univ fun i => goT X w q d (co (F := F) q c i))
      ∗ ((bigSep Finset.univ fun i => tdT X w hw q d (co (F := F) q c i)) -∗ bigSep Finset.univ fun i => tdT X w hw q d (co (F := F) q c i)))
  iintro H; imodintro
  isplitl [H]; · iexact H
  iintro H; iexact H

/-! ## A subcore's own counters and scratch -/

theorem sems_take (q : Fin 2) (d : Dev nD) (i : grid0.Coords) :
    (ownSems0 (th d i) : sProp 𝕄) = iprop((semZ d i (Sm (s5 q) 0) ∗ semZ d i (Sm (s5 q) 1) ∗ semZ d i (Sm (s6 q) 0) ∗ semZ d i (Sm (s6 q) 1) ∗ semZ d i (sg q).sem)
      ∗ bigSep (ownCells (th d i) \ Finset.univ.image fun k : Fin 5 => ((th d i, SemLoc.dma (semF q k)) : GSem nD τ sig)) fun g => semVal g 0) := by
  unfold ownSems0
  have hsub : (Finset.univ.image fun k : Fin 5 => ((th d i, SemLoc.dma (semF q k)) : GSem nD τ sig)) ⊆ ownCells (th d i) := by
    intro g hg
    obtain ⟨k, -, rfl⟩ := Finset.mem_image.mp hg
    exact mem_ownCells.mpr ⟨rfl, semF_scoped q k⟩
  rw [SparseCore.bigSep_sdiff_split' hsub]
  congr 1
  have hinj : Function.Injective fun k : Fin 5 => ((th d i, SemLoc.dma (semF q k)) : GSem nD τ sig) := fun a b e => semF_inj q (by simpa using e)
  rw [show (Finset.univ.image fun k : Fin 5 => ((th d i, SemLoc.dma (semF q k)) : GSem nD τ sig)) = Finset.univ.map ⟨_, hinj⟩ from
    (Finset.map_eq_image ⟨_, hinj⟩ _).symm, bigSep_map]
  rw [show (Finset.univ : Finset (Fin 5)) = {0, 1, 2, 3, 4} from by decide]
  rw [SparseCore.bigSep_insert' (by decide), SparseCore.bigSep_insert' (by decide), SparseCore.bigSep_insert' (by decide), SparseCore.bigSep_insert' (by decide), bigSep_singleton]
  rfl

theorem bufs_take (q : Fin 2) (d : Dev nD) (i : grid0.Coords) :
    (ownBufs (th d i) : sProp 𝕄)
      = iprop((∃ f, (th d i).loc (lstR q) ↦{fullShare} f) ∗ (∃ f, (th d i).loc (rwsR q) ↦{fullShare} f)
          ∗ bigSep (((ownRefs (τ := τ) (.scVector (cV i) (jV i))).erase ((Proc.scVector (cV i) (jV i)).devRef (lstR q))).erase
              ((Proc.scVector (cV i) (jV i)).devRef (rwsR q)))
              fun b => iprop(∃ f, ((d, b) : Loc nD τ sig) ↦{fullShare} f)) := by
  unfold ownBufs
  have h1 : ((Proc.scVector (cV i) (jV i)).devRef (lstR q) : DevRef τ sig).owner = .proc (.scVector (cV i) (jV i)) := match q with | 0 => rfl | 1 => rfl
  have h2 : ((Proc.scVector (cV i) (jV i)).devRef (rwsR q) : DevRef τ sig).owner = .proc (.scVector (cV i) (jV i)) := match q with | 0 => rfl | 1 => rfl
  refine (SparseCore.bigSep_erase' (SparseCore.Cfg.mem_ownRefs_of_owner (p := Proc.scVector (cV i) (jV i))
    (b := (Proc.scVector (cV i) (jV i)).devRef (lstR q)) h1)).trans ?_
  rw [SparseCore.bigSep_erase' (Finset.mem_erase.mpr ⟨fun e => absurd (Proc.devRef_injective _ e) (refs_ne q),
    SparseCore.Cfg.mem_ownRefs_of_owner (p := Proc.scVector (cV i) (jV i)) (b := (Proc.scVector (cV i) (jV i)).devRef (rwsR q)) h2⟩)]

/-- A buffer whole, at some contents, is its two slots, each at some contents, -/
theorem slots {ℓ : Loc nD τ sig} {A B : Finset (Idx ℓ)} (hd : Disjoint A B) (hu : A ∪ B = Finset.univ) :
    (iprop(∃ f, ℓ ↦{fullShare} f) : sProp 𝕄) ⊢ iprop((∃ f, ℓ ↦[A]{fullShare} f) ∗ ∃ f, ℓ ↦[B]{fullShare} f) := by
  iintro ⟨%f, H⟩
  ihave H' := (ent_eq (F := F) (show (ℓ ↦{fullShare} f : sProp 𝕄) = ℓ ↦[A ∪ B]{fullShare} f by rw [hu])) $$ H
  ihave H2 := (pointsTo_union (q := fullShare) (f := f) hd).1 $$ H'
  icases H2 with ⟨HA, HB⟩
  isplitl [HA]; · iexists _; iexact HA
  iexists _; iexact HB
/-- and back. -/
theorem unslots {ℓ : Loc nD τ sig} {A B : Finset (Idx ℓ)} (hd : Disjoint A B) (hu : A ∪ B = Finset.univ) :
    iprop((∃ f, ℓ ↦[A]{fullShare} f) ∗ ∃ f, ℓ ↦[B]{fullShare} f) ⊢ (iprop(∃ f, ℓ ↦{fullShare} f) : sProp 𝕄) := by
  iintro ⟨⟨%f, HA⟩, ⟨%g, HB⟩⟩
  iexists B.piecewise g f
  iapply (ent_eq (F := F) (show (ℓ ↦[A ∪ B]{fullShare} B.piecewise g f : sProp 𝕄) = ℓ ↦{fullShare} B.piecewise g f by rw [hu]))
  iapply (pointsTo_join hd)
  isplitl [HA]; · iexact HA
  iexact HB

theorem any_pts {c : Thread nD τ} {sp : Space} {s : Shape} {e : EltTy} (m : Memref sig c.2.kind sp s e) :
    (iprop(∃ Y, owns c m fullShare Y) : sProp 𝕄) = iprop(∃ f, m.view.loc c ↦[m.view.set]{fullShare} f) := by
  have h₁ : (iprop(∃ Y, owns c m fullShare Y) : sProp 𝕄) ⊢ iprop(∃ f, m.view.loc c ↦[m.view.set]{fullShare} f) := by
    unfold owns; iintro ⟨%Y, %f, -, H⟩; iexists f; iexact H
  have h₂ : iprop(∃ f, m.view.loc c ↦[m.view.set]{fullShare} f) ⊢ (iprop(∃ Y, owns c m fullShare Y) : sProp 𝕄) := by
    unfold owns; iintro ⟨%f, H⟩; iexists (m.view.read (Elt F) f); iexists f; isplitr
    · ipureintro; rfl
    · iexact H
  exact BI.equiv_iff.mp ⟨h₁, h₂⟩

theorem ldiv : 2 ∣ S512.size 0 := ⟨256, rfl⟩
theorem rdiv : 2 ∣ S2x256x128.size 0 := ⟨1, rfl⟩
theorem idiv : 160 ∣ S40960.size 0 := ⟨256, rfl⟩
theorem odiv : 160 ∣ S40960x128.size 0 := ⟨256, rfl⟩
theorem lrect_eq (k : Fin 2) : Rect.unit (s := S512) ![256 * k.val] S256.size (lm_inb k) = Rect.part (s := S512) (a₀ := 0) ldiv k := by
  unfold Rect.part Rect.block
  congr 1 <;> funext a
  · match a with | 0 => simp [Shape.partIx, Shape.partSize]; omega
  · match a with | 0 => simp [Shape.partSize]
theorem rrect_eq (k : Fin 2) : Rect.unit (s := S2x256x128) ![k.val, 0, 0] S1x256x128.size (rm_inb k) = Rect.part (s := S2x256x128) (a₀ := 0) rdiv k := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem irect_eq (b : Fin 160) : irect b = Rect.part (s := S40960) (a₀ := 0) idiv b := by
  unfold irect Rect.part Rect.block
  congr 1 <;> funext a
  · match a with | 0 => simp [Shape.partIx, Shape.partSize]; omega
  · match a with | 0 => simp [Shape.partSize]
theorem orect_eq (b : Fin 160) : orect b = Rect.part (s := S40960x128) (a₀ := 0) odiv b := by
  unfold orect Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

section
variable {lst : Memref sig .scVector .vmem S512 .i32} {rws : Memref sig .scVector .vmem S2x256x128 .f32}
theorem lm_set (k : Fin 2) : (Lm lst k).view.set = (Rect.part (s := S512) (a₀ := 0) ldiv k).set.map lst.view.emb := by
  rw [← lrect_eq]; exact View.set_slice _ _
theorem rm_set (k : Fin 2) : (Rm rws k).view.set = (Rect.part (s := S2x256x128) (a₀ := 0) rdiv k).set.map rws.view.emb := by
  rw [← rrect_eq]; exact (View.set_reshape _ _).trans (View.set_slice _ _)
theorem lm_disj : Disjoint (Lm lst 0).view.set (Lm lst 1).view.set := by
  rw [lm_set, lm_set]; exact (Finset.disjoint_map _).mpr (Rect.part_disjoint ldiv (by decide))
theorem rm_disj : Disjoint (Rm rws 0).view.set (Rm rws 1).view.set := by
  rw [rm_set, rm_set]; exact (Finset.disjoint_map _).mpr (Rect.part_disjoint rdiv (by decide))
theorem lm_union (h : lst.view.set = Finset.univ) : (Lm lst 0).view.set ∪ (Lm lst 1).view.set = Finset.univ := by
  rw [lm_set, lm_set, ← Finset.map_union, show (Rect.part (s := S512) (a₀ := 0) ldiv 0).set ∪ (Rect.part (s := S512) (a₀ := 0) ldiv 1).set = Finset.univ from by
    rw [← Rect.biUnion_part ldiv]; ext x; simp [Fin.exists_fin_two]]
  exact h
theorem rm_union (h : rws.view.set = Finset.univ) : (Rm rws 0).view.set ∪ (Rm rws 1).view.set = Finset.univ := by
  rw [rm_set, rm_set, ← Finset.map_union, show (Rect.part (s := S2x256x128) (a₀ := 0) rdiv 0).set ∪ (Rect.part (s := S2x256x128) (a₀ := 0) rdiv 1).set = Finset.univ from by
    rw [← Rect.biUnion_part rdiv]; ext x; simp [Fin.exists_fin_two]]
  exact h
end

theorem lst_slots (q : Fin 2) (d : Dev nD) (i : grid0.Coords) :
    (iprop(∃ f, (th d i).loc (lstR q) ↦{fullShare} f) : sProp 𝕄) = iprop(lstAny (F := F) d i (lstM q) 0 ∗ lstAny (F := F) d i (lstM q) 1) := by
  unfold lstAny
  rw [any_pts, any_pts]
  match q with
  | 0 => exact BI.equiv_iff.mp ⟨slots lm_disj (lm_union (View.set_whole _)), unslots lm_disj (lm_union (View.set_whole _))⟩
  | 1 => exact BI.equiv_iff.mp ⟨slots lm_disj (lm_union (View.set_whole _)), unslots lm_disj (lm_union (View.set_whole _))⟩
theorem rws_slots (q : Fin 2) (d : Dev nD) (i : grid0.Coords) :
    (iprop(∃ f, (th d i).loc (rwsR q) ↦{fullShare} f) : sProp 𝕄) = iprop(rowAny (F := F) d i (rwsM q) 0 ∗ rowAny (F := F) d i (rwsM q) 1) := by
  unfold rowAny
  rw [any_pts, any_pts]
  match q with
  | 0 => exact BI.equiv_iff.mp ⟨slots rm_disj (rm_union (View.set_whole _)), unslots rm_disj (rm_union (View.set_whole _))⟩
  | 1 => exact BI.equiv_iff.mp ⟨slots rm_disj (rm_union (View.set_whole _)), unslots rm_disj (rm_union (View.set_whole _))⟩

/-! ## A task's obligation -/

theorem rest_eq (q : Fin 2) (d : Dev nD) (i : grid0.Coords) : rest (F := F) d i (lstM q) (s5 q) (rwsM q) (s6 q) (sg q) ⊣⊢
    iprop((lstAny (F := F) d i (lstM q) 0 ∗ lstAny (F := F) d i (lstM q) 1 ∗ rowAny (F := F) d i (rwsM q) 0 ∗ rowAny (F := F) d i (rwsM q) 1)
      ∗ semZ d i (Sm (s5 q) 0) ∗ semZ d i (Sm (s5 q) 1) ∗ semZ d i (Sm (s6 q) 0) ∗ semZ d i (Sm (s6 q) 1) ∗ semZ d i (sg q).sem) := ⟨.rfl, .rfl⟩

theorem tile_body (hF : (K (F := F)).Facts) (q : Fin 2) (d : Dev nD) (i : grid0.Coords) (O : CellTallies nD τ sig (HIx 2)) (W : Waits sig (HIx 2))
    (hO : ∀ g, O g none = 0) :
    iprop(levAts (K (F := F)).L (K (F := F)).lev ∗ emp ∗ goT X w q d i
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_gather_kernel i tabM (Memref.isWhole_whole _) (idsM q) (hids q) (outM q) (hout q) (lstM q) (hlst q) (s5 q) (rwsM q) (hrws q) (s6 q) (sg q))
          fun _ => iprop(tdT X w hw q d i ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), sems_take q, bufs_take q, lst_slots, rws_slots]
  iintro ⟨#Hlv, -, ⟨Ht, Hids, Ho⟩, ⟨⟨Hl0, Hl1⟩, ⟨Hr0, Hr1⟩, Hbufs⟩, ⟨⟨Ha, Hb, Hc, Hd, He⟩, Hsems⟩, HO⟩
  ihave Hmw := (show levAts (K (F := F)).L (K (F := F)).lev ⊢ Transfers.MayWaits (V d (cV i) (jV i)) (default : HIx 2) O from
    (K (F := F)).mayWaits_none (thr := V d (cV i) (jV i)) hO) $$ Hlv
  iapply (wp_wand_r frame _ _)
  isplitl [Hmw Ht Hids Ho Hl0 Hl1 Hr0 Hr1 Ha Hb Hc Hd He HO]
  · iapply (task d i tabM (Memref.isWhole_whole _) (idsM q) (hids q) (outM q) (hout q) (lstM q) (hlst q) (s5 q) (rwsM q) (hrws q) (s6 q) (sg q)
      (tq (tileNo i)) (X d) (ixs w q d) (fun _ _ => hw q d _) O W)
    isplitl [Hmw]; · iexact Hmw
    isplitl [Ht]; · iexact Ht
    isplitl [Hl0 Hl1 Hr0 Hr1 Ha Hb Hc Hd He]
    · iapply (rest_eq (F := F) q d i).2
      isplitl [Hl0 Hl1 Hr0 Hr1]
      · isplitl [Hl0]; · iexact Hl0
        isplitl [Hl1]; · iexact Hl1
        isplitl [Hr0]; · iexact Hr0
        iexact Hr1
      isplitl [Ha]; · iexact Ha
      isplitl [Hb]; · iexact Hb
      isplitl [Hc]; · iexact Hc
      isplitl [Hd]; · iexact Hd
      iexact He
    isplitl [Hids]; · iexact Hids
    isplitl [Ho]; · iexact Ho
    iexact HO
  iintro %_ ⟨Ht, Hr, Hids, Ho, HW⟩
  ihave Hr' := (rest_eq (F := F) q d i).1 $$ Hr
  icases Hr' with ⟨⟨Hl0, Hl1, Hr0, Hr1⟩, Ha, Hb, Hc, Hd, He⟩
  isplitl [Ht Hids Ho]
  · isplitl [Ht]; · iexact Ht
    isplitl [Hids]; · iexact Hids
    iexact Ho
  isplitl [Hl0 Hl1 Hr0 Hr1 Hbufs]
  · isplitl [Hl0 Hl1]
    · isplitl [Hl0]; · iexact Hl0
      iexact Hl1
    isplitl [Hr0 Hr1]
    · isplitl [Hr0]; · iexact Hr0
      iexact Hr1
    iexact Hbufs
  isplitl [Ha Hb Hc Hd He Hsems]
  · isplitl [Ha Hb Hc Hd He]
    · isplitl [Ha]; · iexact Ha
      isplitl [Hb]; · iexact Hb
      isplitl [Hc]; · iexact Hc
      isplitl [Hd]; · iexact Hd
      iexact He
    iexact Hsems
  iexact HW

theorem defs₀_vector0 (c : Fin τ.nSC) (s : Fin τ.nSub) :
    defs₀ (F := F) (.scVector c s) 0 ()
      = SparseCore.onTile hcore0 hsub0 (fun c s => cc0_gather_kernel (coordsV c s) tabM (Memref.isWhole_whole _) (idsM 0) (hids 0) (outM 0) (hout 0)
          (lstM 0) (hlst 0) (s5 0) (rwsM 0) (hrws 0) (s6 0) (sg 0)) ⟨⟩ c s := rfl
/-- The second call's kernel is the first's over its own operands. -/
theorem same : (cc2_gather_kernel (F := F)) = cc0_gather_kernel (F := F) := rfl
theorem defs₀_vector1 (c : Fin τ.nSC) (s : Fin τ.nSub) :
    defs₀ (F := F) (.scVector c s) 2 ()
      = SparseCore.onTile hcore0 hsub0 (fun c s => cc2_gather_kernel (coordsV c s) tabM (Memref.isWhole_whole _) (idsM 1) (hids 1) (outM 1) (hout 1)
          (lstM 1) (hlst 1) (s5 1) (rwsM 1) (hrws 1) (s6 1) (sg 1)) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) : (K (F := F)).TileObl (D (F := F)) 𝒱 (P X w hw) v₀ 0 := by
  intro d c i O W hO _ _
  simp only [show (P X w hw).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body X w hw hF 0 d (coordsV ⟨_, hci.1⟩ ⟨_, hci.2⟩) O W hO).trans (wp_mono frame _ _ fun _ => obl_post)
set_option maxRecDepth 16384 in
theorem tileObl1 (hF : (K (F := F)).Facts) : (K (F := F)).TileObl (D (F := F)) 𝒱 (P X w hw) v₀ 1 := by
  intro d c i O W hO _ _
  simp only [show (P X w hw).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1, same]; simp only [SparseCore.onTile, hci, and_self, ↓reduceDIte]
  exact (tile_body X w hw hF 1 d (coordsV ⟨_, hci.1⟩ ⟨_, hci.2⟩) O W hO).trans (wp_mono frame _ _ fun _ => obl_post)

end Cert.Proof.Sc

end
-- ==== Proof.Split.lean ====
/-
  A gather call's operands whole: the table, the row numbers and the result cut into what the tiles take, and joined
  again from what they bring back — the result then the rows of the table that the row numbers name.
-/
module

public import proofs.«01_k».proof.Proof.Launch

@[expose] public section

noncomputable section

namespace Cert.Proof.Sc

open Cert.KernelIdeal Cert.KernelIdeal.Gen Cert.Proof.Words
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The rows of the table `X` that the numbers `w` name. -/
def gathered (X : S100000x128.Idx → Elt F .f32) (w : S40960.Idx → BitVec 32) (hw : ∀ x, (w x).toNat < 100000) : S40960x128.Idx → Elt F .f32 :=
  fun j => X (fun | 0 => ⟨(w (fun | 0 => j 0)).toNat, hw _⟩ | 1 => j 1)

theorem gathered_block (X : S100000x128.Idx → Elt F .f32) (w : S40960.Idx → BitVec 32) (hw : ∀ x, (w x).toNat < 100000) (b : Fin 160) :
    (fun j => gathered X w hw ((orect b).emb j)) = gath X (fun x => w ((irect b).emb x)) (fun _ => hw _) := by
  funext j
  unfold gathered gath SparseCore.gatherPayload
  congr 1
  funext a
  match a with
  | 0 =>
    refine Fin.ext ?_
    refine Eq.trans ?_ (congrArg Fin.val (Shape.Gathers.idx_axis gathers_S100000x128_S256x128 _ j)).symm
    refine congrArg (fun x => (w x).toNat) (funext fun a => ?_)
    match a with
    | 0 =>
      refine Fin.ext ?_
      have h := Shape.rowMajor_val_one (d := ![256]) (S256.rowMajor.symm (Fin.cast (rfl : S256x128.size 0 = S256.numel) (j 0)))
      rw [Equiv.apply_symm_apply] at h
      exact congrArg (fun n => 256 * b.val + 1 * n) h
  | 1 =>
    refine Fin.ext ?_
    refine Eq.trans ?_ (Shape.Gathers.idx_of_ne gathers_S100000x128_S256x128 _ j 1 (by decide)).symm
    show 0 + 1 * (j 1).val = (j 1).val
    omega

def i0 : grid0.Coords := coordsV (0 : Fin 2) (0 : Fin 16)

theorem out_th (q : Fin 2) (d : Dev nD) (i : grid0.Coords) (b : Fin 160) (Y : S256x128.Idx → Elt F .f32) :
    (owns (th d i) (Om (outM q) b) fullShare Y : sProp 𝕄) = owns (th d i0) (Om (outM q) b) fullShare Y := match q with | 0 => rfl | 1 => rfl
theorem ids_th (q : Fin 2) (d : Dev nD) (i : grid0.Coords) (b : Fin 160) (Y : S256.Idx → Elt F .i32) :
    (owns (th d i) (Im (idsM q) b) fullShare Y : sProp 𝕄) = owns (th d i0) (Im (idsM q) b) fullShare Y := match q with | 0 => rfl | 1 => rfl
theorem tab_th (s : PosShare TreeShare) (d : Dev nD) (i : grid0.Coords) (Y : S100000x128.Idx → Elt F .f32) :
    (owns (th d i) (Tm tabM) s Y : sProp 𝕄) = owns (th d i0) (Tm tabM) s Y := rfl

/-- Every tile once. -/
theorem tiles (q : Fin 2) (Φ : Fin 32 → sProp 𝕄) :
    (bigSep Finset.univ fun c : Fin ((K (F := F)).nCore q) => bigSep Finset.univ fun i : Fin ((K (F := F)).nSub q) => Φ (tileNo (co (F := F) q c i)))
      = bigSep Finset.univ Φ := by
  match q with
  | 0 =>
    refine (bigSep_univ_prod (fun p : Fin 2 × Fin 16 => Φ (tileNo (coordsV p.1 p.2)))).symm.trans ?_
    exact (bigSep_univ_equiv (finProdFinEquiv : Fin 2 × Fin 16 ≃ Fin 32) Φ).symm
  | 1 =>
    refine (bigSep_univ_prod (fun p : Fin 2 × Fin 16 => Φ (tileNo (coordsV p.1 p.2)))).symm.trans ?_
    exact (bigSep_univ_equiv (finProdFinEquiv : Fin 2 × Fin 16 ≃ Fin 32) Φ).symm

/-- Every block once. -/
theorem blocks (q : Fin 2) (Ψ : Fin 160 → sProp 𝕄) :
    (bigSep Finset.univ fun c : Fin ((K (F := F)).nCore q) => bigSep Finset.univ fun i : Fin ((K (F := F)).nSub q) =>
        bigSep Finset.univ fun t : Fin 5 => Ψ (blk (co (F := F) q c i) t))
      = bigSep Finset.univ Ψ := by
  refine Eq.trans ?_ ((tiles q fun n => bigSep Finset.univ fun t : Fin 5 => Ψ (finProdFinEquiv (n, t))).trans ?_)
  · refine bigSep_congr fun c _ => bigSep_congr fun i _ => bigSep_congr fun t _ => congrArg Ψ (Fin.ext ?_)
    simp only [blk, b0, finProdFinEquiv_apply_val, tileNo]; omega
  · refine (bigSep_univ_prod (fun p : Fin 32 × Fin 5 => Ψ (finProdFinEquiv p))).symm.trans ?_
    exact (bigSep_univ_equiv (finProdFinEquiv : Fin 32 × Fin 5 ≃ Fin 160) Ψ).symm

abbrev tabLoc (d : Dev nD) : Loc nD τ sig := (T d : Thread nD τ).loc main_v0
def idsPts (q : Fin 2) (d : Dev nD) (w : S40960.Idx → Elt F .i32) : sProp 𝕄 := match q with
  | 0 => (T d : Thread nD τ).loc main_v3 ↦{fullShare} w
  | 1 => (T d : Thread nD τ).loc main_v9 ↦{fullShare} w
def outPts (q : Fin 2) (d : Dev nD) (Y : S40960x128.Idx → Elt F .f32) : sProp 𝕄 := match q with
  | 0 => (T d : Thread nD τ).loc main_v4 ↦{fullShare} Y
  | 1 => (T d : Thread nD τ).loc main_v10 ↦{fullShare} Y

theorem idsPts_eq (q : Fin 2) (d : Dev nD) (w : S40960.Idx → Elt F .i32) : idsPts q d w = owns (th d i0) (idsM q) fullShare w := by
  match q with
  | 0 => exact (owns_whole (Val := Elt F) (th d i0) main_v3_scv fullShare w).symm
  | 1 => exact (owns_whole (Val := Elt F) (th d i0) main_v9_scv fullShare w).symm
theorem outPts_eq (q : Fin 2) (d : Dev nD) (Y : S40960x128.Idx → Elt F .f32) : outPts q d Y = owns (th d i0) (outM q) fullShare Y := by
  match q with
  | 0 => exact (owns_whole (Val := Elt F) (th d i0) main_v4_scv fullShare Y).symm
  | 1 => exact (owns_whole (Val := Elt F) (th d i0) main_v10_scv fullShare Y).symm

theorem trect_emb (j : S100000x128.Idx) : (Rect.unit (s := S100000x128) ![0, 0] S100000x128.size inb_S100000x128_S100000x128_0_0).emb j = j := by
  funext a
  refine Fin.ext ?_
  rw [Rect.emb_apply]
  match a with
  | 0 => simp
  | 1 => simp
theorem tabPts_eq (d : Dev nD) (s : PosShare TreeShare) (Y : S100000x128.Idx → Elt F .f32) :
    (owns (th d i0) (Tm tabM) s Y : sProp 𝕄) = tabLoc d ↦{s} Y := by
  have h : (owns (th d i0) _ s _ : sProp 𝕄) = _ := owns_slice_read (th d i0) tabM s (Rect.unit (s := S100000x128) ![0, 0] S100000x128.size inb_S100000x128_S100000x128_0_0) (fun _ => rfl) Y
  have hset : (tabM.view.slice (Rect.unit (s := S100000x128) ![0, 0] S100000x128.size inb_S100000x128_S100000x128_0_0)).set = Finset.univ := by
    rw [View.set_slice]
    refine Eq.trans (congrArg _ ?_) (View.set_whole main_v0_scv)
    rw [← Rect.map_emb_univ]
    exact Finset.eq_univ_of_forall fun x => Finset.mem_map.mpr ⟨x, Finset.mem_univ _, trect_emb x⟩
  rw [hset] at h
  refine Eq.trans (congrArg (owns (th d i0) (Tm tabM) s) (funext fun j => ?_)) h
  exact (congrArg Y (trect_emb j)).symm

theorem irect_disj : ∀ t t' : Fin 160, t ≠ t' → Disjoint (irect t).set (irect t').set := fun t t' h => by
  rw [irect_eq, irect_eq]; exact Rect.part_disjoint idiv h
theorem orect_disj : ∀ t t' : Fin 160, t ≠ t' → Disjoint (orect t).set (orect t').set := fun t t' h => by
  rw [orect_eq, orect_eq]; exact Rect.part_disjoint odiv h
theorem irect_cover : (Finset.univ : Finset (Fin 160)).biUnion (fun t => (irect t).set) = Finset.univ :=
  (Finset.biUnion_congr rfl fun b _ => by rw [irect_eq]).trans (Rect.biUnion_part idiv)
theorem orect_cover : (Finset.univ : Finset (Fin 160)).biUnion (fun t => (orect t).set) = Finset.univ :=
  (Finset.biUnion_congr rfl fun b _ => by rw [orect_eq]).trans (Rect.biUnion_part odiv)

theorem ids_split (q : Fin 2) (d : Dev nD) (w : S40960.Idx → Elt F .i32) : owns (th d i0) (idsM q) fullShare w
    ⊢ (bigSep Finset.univ fun b : Fin 160 => owns (th d i0) (Im (idsM q) b) fullShare (fun x => w ((irect b).emb x)) : sProp 𝕄) :=
  owns_rects (th d i0) (idsM q) fullShare irect (fun _ _ => rfl) irect_disj irect_cover w
theorem ids_join [∀ e, Nonempty (Elt F e)] (q : Fin 2) (d : Dev nD) (w : S40960.Idx → Elt F .i32) :
    (bigSep Finset.univ fun b : Fin 160 => owns (th d i0) (Im (idsM q) b) fullShare (fun x => w ((irect b).emb x)) : sProp 𝕄)
      ⊢ owns (th d i0) (idsM q) fullShare w :=
  owns_of_rects (th d i0) (idsM q) fullShare irect (fun _ _ => rfl) irect_disj irect_cover w
theorem out_split (q : Fin 2) (d : Dev nD) (Y : S40960x128.Idx → Elt F .f32) : owns (th d i0) (outM q) fullShare Y
    ⊢ (bigSep Finset.univ fun b : Fin 160 => iprop(∃ Y, owns (th d i0) (Om (outM q) b) fullShare Y) : sProp 𝕄) := by
  refine (owns_rects (th d i0) (outM q) fullShare orect (fun _ _ => rfl) orect_disj orect_cover Y).trans (bigSep_mono fun b _ => ?_)
  have h : owns (th d i0) (Om (outM q) b) fullShare (fun j => Y ((orect b).emb j)) ⊢ (iprop(∃ Y, owns (th d i0) (Om (outM q) b) fullShare Y) : sProp 𝕄) := by
    iintro H; iexists _; iexact H
  exact h
theorem out_join [∀ e, Nonempty (Elt F e)] (q : Fin 2) (d : Dev nD) (Y : S40960x128.Idx → Elt F .f32) :
    (bigSep Finset.univ fun b : Fin 160 => owns (th d i0) (Om (outM q) b) fullShare (fun x => Y ((orect b).emb x)) : sProp 𝕄)
      ⊢ owns (th d i0) (outM q) fullShare Y :=
  owns_of_rects (th d i0) (outM q) fullShare orect (fun _ _ => rfl) orect_disj orect_cover Y

variable (X : Dev nD → S100000x128.Idx → Elt F .f32) (w : Fin 2 → Dev nD → S40960.Idx → BitVec 32)
  (hw : ∀ q d x, (w q d x).toNat < 100000)

/-- What a call takes, from its operands whole. -/
theorem st_intro (q : Fin 2) (d : Dev nD) :
    iprop((tabLoc d ↦{fullShare} X d) ∗ idsPts q d (w q d) ∗ ∃ f, outPts q d f)
      ⊢ (bigSep Finset.univ fun c : Fin ((K (F := F)).nCore q) => (P X w hw).st q d c : sProp 𝕄) := by
  have e : (bigSep Finset.univ fun c : Fin ((K (F := F)).nCore q) => (P X w hw).st q d c : sProp 𝕄)
      = iprop((bigSep Finset.univ fun n : Fin 32 => owns (th d i0) (Tm tabM) (tq n) (X d))
        ∗ (bigSep Finset.univ fun b : Fin 160 => owns (th d i0) (Im (idsM q) b) fullShare (ixs w q d b : S256.Idx → Elt F .i32))
        ∗ bigSep Finset.univ fun b : Fin 160 => iprop(∃ Y, owns (th d i0) (Om (outM q) b) fullShare Y)) := by
    show (bigSep Finset.univ fun c => bigSep Finset.univ fun i => goT X w q d (co (F := F) q c i)) = _
    simp only [bigSep_sep', outAny, out_th, ids_th, tab_th]
    rw [tiles q (fun n => owns (th d i0) (Tm tabM) (tq n) (X d)), blocks q (fun b => owns (th d i0) (Im (idsM q) b) fullShare (ixs w q d b : S256.Idx → Elt F .i32)),
      blocks q (fun b => iprop(∃ Y, owns (th d i0) (Om (outM q) b) fullShare Y))]
  rw [e, idsPts_eq]
  simp only [tabPts_eq, outPts_eq]
  rw [← pointsTo_piecesOf]
  iintro ⟨Ht, Hi, %f, Ho⟩
  isplitl [Ht]; · iexact Ht
  isplitl [Hi]
  · iapply (ids_split q d (w q d : S40960.Idx → Elt F .i32)) $$ Hi
  · iapply (out_split q d f) $$ Ho

/-- What a call brings back, as its operands whole. -/
theorem dn_elim [∀ e, Nonempty (Elt F e)] (q : Fin 2) (d : Dev nD) :
    (bigSep Finset.univ fun c : Fin ((K (F := F)).nCore q) => (P X w hw).dn q d c : sProp 𝕄)
      ⊢ iprop((tabLoc d ↦{fullShare} X d) ∗ idsPts q d (w q d) ∗ outPts q d (gathered (X d) (w q d) (hw q d))) := by
  have e : (bigSep Finset.univ fun c : Fin ((K (F := F)).nCore q) => (P X w hw).dn q d c : sProp 𝕄)
      = iprop((bigSep Finset.univ fun n : Fin 32 => owns (th d i0) (Tm tabM) (tq n) (X d))
        ∗ (bigSep Finset.univ fun b : Fin 160 => owns (th d i0) (Im (idsM q) b) fullShare (ixs w q d b : S256.Idx → Elt F .i32))
        ∗ bigSep Finset.univ fun b : Fin 160 => owns (th d i0) (Om (outM q) b) fullShare (fun j => gathered (X d) (w q d) (hw q d) ((orect b).emb j))) := by
    show (bigSep Finset.univ fun c => bigSep Finset.univ fun i => tdT X w hw q d (co (F := F) q c i)) = _
    simp only [bigSep_sep', outAt, out_th, ids_th, tab_th]
    rw [tiles q (fun n => owns (th d i0) (Tm tabM) (tq n) (X d)), blocks q (fun b => owns (th d i0) (Im (idsM q) b) fullShare (ixs w q d b : S256.Idx → Elt F .i32)),
      blocks q (fun b => owns (th d i0) (Om (outM q) b) fullShare (gath (X d) (ixs w q d b) fun _ => hw q d _))]
    refine congrArg _ (congrArg _ (bigSep_congr fun b _ => ?_))
    exact congrArg (owns (th d i0) (Om (outM q) b) fullShare) (gathered_block (X d) (w q d) (hw q d) b).symm
  rw [e, idsPts_eq]
  simp only [tabPts_eq, outPts_eq]
  rw [← pointsTo_piecesOf]
  iintro ⟨Ht, Hi, Ho⟩
  isplitl [Ht]; · iexact Ht
  isplitl [Hi]
  · iapply (ids_join q d (w q d : S40960.Idx → Elt F .i32)) $$ Hi
  · iapply (out_join q d (gathered (X d) (w q d) (hw q d))) $$ Ho

end Cert.Proof.Sc

end
-- ==== Proof.Vals.lean ====
/-
  The program's host operations as five straight lines, and what each leaves in the buffers that are read later.
-/
module

public import proofs.«01_k».proof.Proof.Pipes
public import proofs.«01_k».proof.Proof.Split
public import Idealize.ShloMosaic.Lib.StableHlo.Run

@[expose] public section

noncomputable section

namespace Cert.Proof.Run

open Cert.KernelIdeal Cert.KernelIdeal.Gen Cert.Proof.Sc
open Idealize.ShloMosaic Idealize.ShloMosaic.TcCoe
open Idealize.ShloMosaic.SparseCore (S V T)
open Idealize.ShloMosaic.StableHlo (seq after)
open Idealize.SL.Sem

variable {F : FTy → Type} [FloatOps F]

/-! ## The lines -/

/-- The padded table, the transposed row numbers, and the first half of them in one row. -/
def ops0 : List (HloOp τ sig (Elt F)) := [
  StableHlo.nullary main_c (constantI S_ 32 0#32),
  StableHlo.TRef.unary (.of main_c : StableHlo.TRef sig ⟨S_, .i32⟩) main_call0.v0 (sitofp .f32),
  StableHlo.TRef.binary (.of main_arg1 : StableHlo.TRef sig ⟨S100000x64, .f32⟩) main_call0.v0 main_call0.v1 (fun x v => pad S100000x128 ![0, 0] ![0, 64] ![0, 0] x v pads_S100000x64_S100000x128_000_0640 h_S_),
  StableHlo.unary main_arg0 main_v1 ((transpose S5x16384 [1, 0] · transposes_S16384x5_S5x16384_1_0) : (⟨S16384x5, .i32⟩ : BufTy).Contents (Elt F) → (⟨S5x16384, .i32⟩ : BufTy).Contents (Elt F)),
  StableHlo.unary main_v1 main_v2 ((extractStridedSlice S5x8192 ![0, 0] · slices_S5x16384_S5x8192_0_0) : (⟨S5x16384, .i32⟩ : BufTy).Contents (Elt F) → (⟨S5x8192, .i32⟩ : BufTy).Contents (Elt F)),
  StableHlo.reshape main_v2 main_v3 (rfl : (.i32 : EltTy) = .i32) shapeCasts_S5x8192_S40960]
/-- The two biases, each with a second axis. -/
def ops1 : List (HloOp τ sig (Elt F)) := [
  StableHlo.reshape main_arg3 main_v5 (rfl : (.f32 : EltTy) = .f32) shapeCasts_S128_S1x128,
  StableHlo.reshape main_arg5 main_v6 (rfl : (.f32 : EltTy) = .f32) shapeCasts_S1000_S1000x1]
/-- The second half of the row numbers in one row. -/
def ops2 : List (HloOp τ sig (Elt F)) := [
  StableHlo.unary main_v1 main_v8 ((extractStridedSlice S5x8192 ![0, 8192] · slices_S5x16384_S5x8192_0_8192) : (⟨S5x16384, .i32⟩ : BufTy).Contents (Elt F) → (⟨S5x8192, .i32⟩ : BufTy).Contents (Elt F)),
  StableHlo.reshape main_v8 main_v9 (rfl : (.i32 : EltTy) = .i32) shapeCasts_S5x8192_S40960]
/-- The two biases again, and the first pipeline's result where the second writes. -/
def ops3 : List (HloOp τ sig (Elt F)) := [
  StableHlo.reshape main_arg3 main_v11 (rfl : (.f32 : EltTy) = .f32) shapeCasts_S128_S1x128,
  StableHlo.reshape main_arg5 main_v12 (rfl : (.f32 : EltTy) = .f32) shapeCasts_S1000_S1000x1,
  StableHlo.unary main_v7 main_v13 id]
/-- The result, its rows the batch. -/
def ops4 : List (HloOp τ sig (Elt F)) := [
  StableHlo.unary main_v13 main_v14 ((transpose S16384x1000 [1, 0] · transposes_S1000x16384_S16384x1000_1_0) : (⟨S1000x16384, .f32⟩ : BufTy).Contents (Elt F) → (⟨S16384x1000, .f32⟩ : BufTy).Contents (Elt F))]

theorem main_eq (d : Dev nD) : main (F := F) d = (seq ops0 >>= fun _ => sc.run d 0 >>= fun _ => seq ops1 >>= fun _ =>
    Prog.lift (.customCall (SparseCore.inner (Pipeline.entry 0)) ()) >>= fun _ => seq ops2 >>= fun _ => sc.run d 1 >>= fun _ => seq ops3 >>= fun _ =>
    Prog.lift (.customCall (SparseCore.inner (Pipeline.entry 1)) ()) >>= fun _ => seq ops4) := by
  rfl

/-! ## What they leave -/

variable (W : Valuation τ sig (Elt F))

theorem keep0 (r : Ref sig .tc) (h : r ∉ [main_c, main_call0_v0, main_v0, main_v1, main_v2, main_v3]) :
    after (ops0 (F := F)) W (Proc.devRef .tc r) = W (Proc.devRef .tc r) :=
  StableHlo.after_of_writes_sub ops0 W (StableHlo.forall_writes_sub_of_map rfl) h
theorem keep1 (r : Ref sig .tc) (h : r ∉ [main_v5, main_v6]) : after (ops1 (F := F)) W (Proc.devRef .tc r) = W (Proc.devRef .tc r) :=
  StableHlo.after_of_writes_sub ops1 W (StableHlo.forall_writes_sub_of_map rfl) h
theorem keep2 (r : Ref sig .tc) (h : r ∉ [main_v8, main_v9]) : after (ops2 (F := F)) W (Proc.devRef .tc r) = W (Proc.devRef .tc r) :=
  StableHlo.after_of_writes_sub ops2 W (StableHlo.forall_writes_sub_of_map rfl) h
theorem keep3 (r : Ref sig .tc) (h : r ∉ [main_v11, main_v12, main_v13]) : after (ops3 (F := F)) W (Proc.devRef .tc r) = W (Proc.devRef .tc r) :=
  StableHlo.after_of_writes_sub ops3 W (StableHlo.forall_writes_sub_of_map rfl) h
theorem keep4 (r : Ref sig .tc) (h : r ∉ [main_v14]) : after (ops4 (F := F)) W (Proc.devRef .tc r) = W (Proc.devRef .tc r) :=
  StableHlo.after_of_writes_sub ops4 W (StableHlo.forall_writes_sub_of_map rfl) h

/-- The table with 64 columns of zeros after its own. -/
def padT (t : S100000x64.Idx → Elt F .f32) : S100000x128.Idx → Elt F .f32 :=
  pad S100000x128 ![0, 0] ![0, 64] ![0, 0] t (sitofp .f32 (constantI S_ 32 0#32)) pads_S100000x64_S100000x128_000_0640 h_S_
/-- The row numbers, one row per column of theirs. -/
def xT (x : S16384x5.Idx → BitVec 32) : S5x16384.Idx → BitVec 32 := transpose S5x16384 [1, 0] x transposes_S16384x5_S5x16384_1_0
/-- Half of the row numbers in one row. -/
def nums (x : S16384x5.Idx → BitVec 32) : Fin 2 → S40960.Idx → BitVec 32
  | 0 => shapeCast S40960 (extractStridedSlice S5x8192 ![0, 0] (xT x) slices_S5x16384_S5x8192_0_0) shapeCasts_S5x8192_S40960
  | 1 => shapeCast S40960 (extractStridedSlice S5x8192 ![0, 8192] (xT x) slices_S5x16384_S5x8192_0_8192) shapeCasts_S5x8192_S40960

theorem val_v0 : after (ops0 (F := F)) W (Proc.devRef .tc main_v0) = padT (W (Proc.devRef .tc main_arg1)) := by
  unfold ops0; after_results; rfl
theorem val_v1 : after (ops0 (F := F)) W (Proc.devRef .tc main_v1) = xT (W (Proc.devRef .tc main_arg0)) := by
  unfold ops0; after_results; rfl
theorem val_v3 : after (ops0 (F := F)) W (Proc.devRef .tc main_v3) = nums (W (Proc.devRef .tc main_arg0)) 0 := by
  unfold ops0; after_results; rfl
theorem val_v5 : after (ops1 (F := F)) W (Proc.devRef .tc main_v5) = shapeCast S1x128 (W (Proc.devRef .tc main_arg3)) shapeCasts_S128_S1x128 := by
  unfold ops1; after_results; rfl
theorem val_v6 : after (ops1 (F := F)) W (Proc.devRef .tc main_v6) = shapeCast S1000x1 (W (Proc.devRef .tc main_arg5)) shapeCasts_S1000_S1000x1 := by
  unfold ops1; after_results; rfl
theorem val_v9 {x : S16384x5.Idx → BitVec 32} (h : W (Proc.devRef .tc main_v1) = xT x) : after (ops2 (F := F)) W (Proc.devRef .tc main_v9) = nums x 1 := by
  unfold ops2; after_results; rw [h]; rfl
theorem val_v11 : after (ops3 (F := F)) W (Proc.devRef .tc main_v11) = shapeCast S1x128 (W (Proc.devRef .tc main_arg3)) shapeCasts_S128_S1x128 := by
  unfold ops3; after_results; rfl
theorem val_v12 : after (ops3 (F := F)) W (Proc.devRef .tc main_v12) = shapeCast S1000x1 (W (Proc.devRef .tc main_arg5)) shapeCasts_S1000_S1000x1 := by
  unfold ops3; after_results; rfl
theorem val_v13 : after (ops3 (F := F)) W (Proc.devRef .tc main_v13) = W (Proc.devRef .tc main_v7) := by
  unfold ops3; after_results; rfl
theorem val_v14 : after (ops4 (F := F)) W (Proc.devRef .tc main_v14) = transpose S16384x1000 [1, 0] (W (Proc.devRef .tc main_v13)) transposes_S1000x16384_S16384x1000_1_0 := by
  unfold ops4; after_results

end Cert.Proof.Run

end
-- ==== Proof.Main.lean ====
/-
  The whole program's run: the host lines, the two gather calls and the two pipelines, from the launch to its end.
-/
module

public import proofs.«01_k».proof.Proof.Vals
public import Idealize.ShloMosaic.Lib.SparseCore.Quiescent

@[expose] public section

noncomputable section

namespace Cert.Proof.Run

open Cert.KernelIdeal Cert.KernelIdeal.Gen Cert.Proof.Sc Cert.Proof.Tc
open Idealize.ShloMosaic Idealize.ShloMosaic.TcCoe
open Idealize.ShloMosaic.SparseCore (S V T)
open Idealize.ShloMosaic.SparseCore.Cfg (HIx Pay)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 2) (Elt F) ℕ UU ℕ

/-! ## The TensorCore's buffers, as the host lines hold them -/

/-- The TensorCore's buffers outside the kernels' regions. -/
def uc : Finset (DevRef τ sig) := (StableHlo.tcRefs τ sig).filter fun b => ¬ b.isScoped

omit [FloatOps F] [∀ e, Nonempty (Elt F e)] in
theorem ub_held (d : Dev nD) (W : Valuation τ sig (Elt F)) : (ub d W : sProp 𝕄) = held (T d : Thread nD τ) uc W := by
  unfold ub unscopedBufs held uc StableHlo.tcRefs
  rw [Finset.filter_map, bigSep_map]
  rfl

theorem mem_uc (r : Ref sig .tc) (h : ¬ r.isScoped) : (Proc.devRef .tc r : DevRef τ sig) ∈ uc :=
  Finset.mem_filter.mpr ⟨StableHlo.devRef_mem_tcRefs r, h⟩

theorem sub_uc {s : Finset (DevRef τ sig)} (l : List (Ref sig .tc)) (hs : s = (l.map (Proc.devRef (τ := τ) .tc)).toFinset) (h : ∀ r ∈ l, ¬ r.isScoped) :
    s ⊆ uc := by
  subst hs
  intro b hb
  obtain ⟨r, hr, rfl⟩ := List.mem_map.mp (List.mem_toFinset.mp hb)
  exact mem_uc r (h r hr)

/-- A host line at the head of the program. -/
theorem wp_line (d : Dev nD) (ops : List (HloOp τ sig (Elt F))) (hS : ∀ op ∈ ops, op.bufs ⊆ uc) (hf : ∀ op ∈ ops, op.fresh = ∅)
    (W : Valuation τ sig (Elt F)) (Φ : PUnit → sProp 𝕄) :
    iprop((boundary (T d) ∗ held (T d : Thread nD τ) uc W) ∗ ((boundary (T d) ∗ held (T d : Thread nD τ) uc (after ops W)) -∗ Φ PUnit.unit))
      ⊢ wp frame (wpE ((K (F := F)).defs (D (F := F))) 𝒱 (T d) none) Set.univ (seq ops) Φ := by
  have h := StableHlo.wp_seq (defs := (K (F := F)).defs (D (F := F))) (Ix := HIx 2) (Name := ℕ) (U := UU) (Lvl := ℕ) 𝒱 none Set.univ d uc
    (fun _ => (pure PUnit.unit)) (K := Φ) ops hS hf W
  rw [bind_pure_unit] at h
  iintro ⟨H, Hk⟩
  iapply h $$ H
  iintro H
  rw [wp_pure]; imodintro
  iapply Hk; iexact H

theorem sub0 : ∀ op ∈ (ops0 (F := F)), op.bufs ⊆ uc := by
  intro op h
  simp only [ops0, List.mem_cons, List.not_mem_nil, or_false] at h
  rcases h with rfl | rfl | rfl | rfl | rfl | rfl
  · exact sub_uc [main_c] rfl (by decide)
  · exact sub_uc [main_c, main_call0_v0] rfl (by decide)
  · exact sub_uc [main_arg1, main_call0_v0, main_v0] rfl (by decide)
  · exact sub_uc [main_arg0, main_v1] rfl (by decide)
  · exact sub_uc [main_v1, main_v2] rfl (by decide)
  · exact sub_uc [main_v2, main_v3] rfl (by decide)
theorem sub1 : ∀ op ∈ (ops1 (F := F)), op.bufs ⊆ uc := by
  intro op h
  simp only [ops1, List.mem_cons, List.not_mem_nil, or_false] at h
  rcases h with rfl | rfl
  · exact sub_uc [main_arg3, main_v5] rfl (by decide)
  · exact sub_uc [main_arg5, main_v6] rfl (by decide)
theorem sub2 : ∀ op ∈ (ops2 (F := F)), op.bufs ⊆ uc := by
  intro op h
  simp only [ops2, List.mem_cons, List.not_mem_nil, or_false] at h
  rcases h with rfl | rfl
  · exact sub_uc [main_v1, main_v8] rfl (by decide)
  · exact sub_uc [main_v8, main_v9] rfl (by decide)
theorem sub3 : ∀ op ∈ (ops3 (F := F)), op.bufs ⊆ uc := by
  intro op h
  simp only [ops3, List.mem_cons, List.not_mem_nil, or_false] at h
  rcases h with rfl | rfl | rfl
  · exact sub_uc [main_arg3, main_v11] rfl (by decide)
  · exact sub_uc [main_arg5, main_v12] rfl (by decide)
  · exact sub_uc [main_v7, main_v13] rfl (by decide)
theorem sub4 : ∀ op ∈ (ops4 (F := F)), op.bufs ⊆ uc := by
  intro op h
  simp only [ops4, List.mem_cons, List.not_mem_nil, or_false] at h
  rcases h with rfl
  exact sub_uc [main_v13, main_v14] rfl (by decide)

theorem fresh0 : ∀ op ∈ (ops0 (F := F)), op.fresh = ∅ := List.forall_iff_forall_mem.mp (StableHlo.forall_fresh_of_map rfl)
theorem fresh1 : ∀ op ∈ (ops1 (F := F)), op.fresh = ∅ := List.forall_iff_forall_mem.mp (StableHlo.forall_fresh_of_map rfl)
theorem fresh2 : ∀ op ∈ (ops2 (F := F)), op.fresh = ∅ := List.forall_iff_forall_mem.mp (StableHlo.forall_fresh_of_map rfl)
theorem fresh3 : ∀ op ∈ (ops3 (F := F)), op.fresh = ∅ := List.forall_iff_forall_mem.mp (StableHlo.forall_fresh_of_map rfl)
theorem fresh4 : ∀ op ∈ (ops4 (F := F)), op.fresh = ∅ := List.forall_iff_forall_mem.mp (StableHlo.forall_fresh_of_map rfl)

/-! ## A gather call within the program -/

/-- Three distinct buffers out of the ones held. -/
theorem held_three (d : Dev nD) (a b c : Ref sig .tc) (ha : ¬ a.isScoped) (hb : ¬ b.isScoped) (hc : ¬ c.isScoped) (hab : a ≠ b) (hac : a ≠ c) (hbc : b ≠ c)
    (W : Valuation τ sig (Elt F)) :
    (held (T d : Thread nD τ) uc W : sProp 𝕄)
      = iprop((((T d : Thread nD τ).loc a ↦{fullShare} W (Proc.devRef .tc a)) ∗ ((T d : Thread nD τ).loc b ↦{fullShare} W (Proc.devRef .tc b))
        ∗ (T d : Thread nD τ).loc c ↦{fullShare} W (Proc.devRef .tc c))
        ∗ held (T d : Thread nD τ) (uc \ {Proc.devRef .tc a, Proc.devRef .tc b, Proc.devRef .tc c}) W) := by
  have hT : ({Proc.devRef .tc a, Proc.devRef .tc b, Proc.devRef .tc c} : Finset (DevRef τ sig)) ⊆ uc := by
    intro x hx
    simp only [Finset.mem_insert, Finset.mem_singleton] at hx
    rcases hx with rfl | rfl | rfl
    · exact mem_uc a ha
    · exact mem_uc b hb
    · exact mem_uc c hc
  rw [StableHlo.held_sub_split (T d : Thread nD τ) hT W]
  congr 1
  unfold held
  rw [SparseCore.bigSep_insert', SparseCore.bigSep_insert', bigSep_singleton]
  · rw [Finset.mem_singleton]; exact StableHlo.devRef_ne_of_ne hbc
  · rw [Finset.mem_insert, Finset.mem_singleton, not_or]
    exact ⟨StableHlo.devRef_ne_of_ne hab, StableHlo.devRef_ne_of_ne hac⟩

/-- The third of them written anew. -/
theorem held_three_update (d : Dev nD) (a b c : Ref sig .tc) (ha : ¬ a.isScoped) (hb : ¬ b.isScoped) (hc : ¬ c.isScoped) (hab : a ≠ b) (hac : a ≠ c) (hbc : b ≠ c)
    (W : Valuation τ sig (Elt F)) (Y : Buf (Elt F) ((T d : Thread nD τ).loc c)) :
    (held (T d : Thread nD τ) uc (Function.update W (Proc.devRef .tc c) Y) : sProp 𝕄)
      = iprop((((T d : Thread nD τ).loc a ↦{fullShare} W (Proc.devRef .tc a)) ∗ ((T d : Thread nD τ).loc b ↦{fullShare} W (Proc.devRef .tc b))
        ∗ (T d : Thread nD τ).loc c ↦{fullShare} Y)
        ∗ held (T d : Thread nD τ) (uc \ {Proc.devRef .tc a, Proc.devRef .tc b, Proc.devRef .tc c}) W) := by
  rw [held_three d a b c ha hb hc hab hac hbc]
  congr 1
  · rw [Function.update_of_ne (StableHlo.devRef_ne_of_ne hac), Function.update_of_ne (StableHlo.devRef_ne_of_ne hbc), Function.update_self]
  · refine StableHlo.held_congr _ fun x hx => Function.update_of_ne (fun e => ?_) _ _
    subst e
    exact (Finset.mem_sdiff.mp hx).2 (by simp)

section Calls

variable (X : Dev nD → S100000x128.Idx → Elt F .f32) (w : Fin 2 → Dev nD → S40960.Idx → BitVec 32) (hw : ∀ q d x, (w q d x).toNat < 100000)
variable (κ : GSem nD τ sig → ℕ) (d : Dev nD) (W : Valuation τ sig (Elt F))

/-- What a call takes and hands back, buffer by buffer. -/
theorem st_any (q : Fin 2) (f : S40960x128.Idx → Elt F .f32) : iprop((tabLoc d ↦{fullShare} X d) ∗ idsPts q d (w q d) ∗ outPts q d f)
    ⊢ (bigSep Finset.univ fun c : Fin ((K (F := F)).nCore q) => (P X w hw).st q d c : sProp 𝕄) := by
  refine BIBase.Entails.trans ?_ (st_intro X w hw q d)
  iintro ⟨Ht, Hi, Ho⟩
  isplitl [Ht]; · iexact Ht
  isplitl [Hi]; · iexact Hi
  iexists f; iexact Ho
theorem st0 (f : S40960x128.Idx → Elt F .f32) : iprop(((T d : Thread nD τ).loc main_v0 ↦{fullShare} X d) ∗ ((T d : Thread nD τ).loc main_v3 ↦{fullShare} w 0 d)
      ∗ (T d : Thread nD τ).loc main_v4 ↦{fullShare} f)
    ⊢ (bigSep Finset.univ fun c : Fin ((K (F := F)).nCore 0) => (P X w hw).st 0 d c : sProp 𝕄) := st_any X w hw d 0 f
theorem st1 (f : S40960x128.Idx → Elt F .f32) : iprop(((T d : Thread nD τ).loc main_v0 ↦{fullShare} X d) ∗ ((T d : Thread nD τ).loc main_v9 ↦{fullShare} w 1 d)
      ∗ (T d : Thread nD τ).loc main_v10 ↦{fullShare} f)
    ⊢ (bigSep Finset.univ fun c : Fin ((K (F := F)).nCore 1) => (P X w hw).st 1 d c : sProp 𝕄) := st_any X w hw d 1 f
theorem dn0 : (bigSep Finset.univ fun c : Fin ((K (F := F)).nCore 0) => (P X w hw).dn 0 d c : sProp 𝕄)
    ⊢ iprop(((T d : Thread nD τ).loc main_v0 ↦{fullShare} X d) ∗ ((T d : Thread nD τ).loc main_v3 ↦{fullShare} w 0 d)
      ∗ (T d : Thread nD τ).loc main_v4 ↦{fullShare} gathered (X d) (w 0 d) (hw 0 d)) := dn_elim X w hw 0 d
theorem dn1 : (bigSep Finset.univ fun c : Fin ((K (F := F)).nCore 1) => (P X w hw).dn 1 d c : sProp 𝕄)
    ⊢ iprop(((T d : Thread nD τ).loc main_v0 ↦{fullShare} X d) ∗ ((T d : Thread nD τ).loc main_v9 ↦{fullShare} w 1 d)
      ∗ (T d : Thread nD τ).loc main_v10 ↦{fullShare} gathered (X d) (w 1 d) (hw 1 d)) := dn_elim X w hw 1 d

theorem wp_call0 (Φ : PUnit → sProp 𝕄) (h0 : W (Proc.devRef .tc main_v0) = X d) (h1 : W (Proc.devRef .tc main_v3) = w 0 d) :
    iprop((K (F := F)).ctx EH (P X w hw) κ ∗ (K (F := F)).tcSt EH d 0 ∗ held (T d : Thread nD τ) uc W
        ∗ (((K (F := F)).tcSt EH d 1 ∗ held (T d : Thread nD τ) uc (Function.update W (Proc.devRef .tc main_v4) (gathered (X d) (w 0 d) (hw 0 d)))) -∗ Φ PUnit.unit))
      ⊢ wp frame (wpE ((K (F := F)).defs (D (F := F))) 𝒱 (T d) none) Set.univ (sc.run d 0) Φ := by
  have e := held_three (F := F) d main_v0 main_v3 main_v4 (by decide) (by decide) (by decide) (by decide) (by decide) (by decide) W
  have e' := held_three_update (F := F) d main_v0 main_v3 main_v4 (by decide) (by decide) (by decide) (by decide) (by decide) (by decide) W
    (gathered (X d) (w 0 d) (hw 0 d))
  rw [h0, h1] at e e'
  rw [e, e']
  iintro ⟨#Hctx, Hst, ⟨⟨Ht, Hi, Ho⟩, Hr⟩, Hk⟩
  iapply ((K (F := F)).wp_run (D (F := F)) 𝒱 (EH := EH) (P := P X w hw) κ d 0) $$ [Hst Ht Hi Ho Hr Hk]
  isplitr; · iexact Hctx
  isplitl [Hst]; · iexact Hst
  isplitl [Ht Hi Ho]
  · iapply (st0 X w hw d (W (Proc.devRef .tc main_v4)))
    isplitl [Ht]; · iexact Ht
    isplitl [Hi]; · iexact Hi
    iexact Ho
  iintro ⟨Hst, Hdn⟩
  ihave Hdn := (dn0 X w hw d) $$ Hdn
  icases Hdn with ⟨Ht, Hi, Ho⟩
  iapply Hk
  isplitl [Hst]; · iexact Hst
  isplitr [Hr]
  · isplitl [Ht]; · iexact Ht
    isplitl [Hi]; · iexact Hi
    iexact Ho
  iexact Hr

theorem wp_call1 (Φ : PUnit → sProp 𝕄) (h0 : W (Proc.devRef .tc main_v0) = X d) (h1 : W (Proc.devRef .tc main_v9) = w 1 d) :
    iprop((K (F := F)).ctx EH (P X w hw) κ ∗ (K (F := F)).tcSt EH d 1 ∗ held (T d : Thread nD τ) uc W
        ∗ (((K (F := F)).tcSt EH d 2 ∗ held (T d : Thread nD τ) uc (Function.update W (Proc.devRef .tc main_v10) (gathered (X d) (w 1 d) (hw 1 d)))) -∗ Φ PUnit.unit))
      ⊢ wp frame (wpE ((K (F := F)).defs (D (F := F))) 𝒱 (T d) none) Set.univ (sc.run d 1) Φ := by
  have e := held_three (F := F) d main_v0 main_v9 main_v10 (by decide) (by decide) (by decide) (by decide) (by decide) (by decide) W
  have e' := held_three_update (F := F) d main_v0 main_v9 main_v10 (by decide) (by decide) (by decide) (by decide) (by decide) (by decide) W
    (gathered (X d) (w 1 d) (hw 1 d))
  rw [h0, h1] at e e'
  rw [e, e']
  iintro ⟨#Hctx, Hst, ⟨⟨Ht, Hi, Ho⟩, Hr⟩, Hk⟩
  iapply ((K (F := F)).wp_run (D (F := F)) 𝒱 (EH := EH) (P := P X w hw) κ d 1) $$ [Hst Ht Hi Ho Hr Hk]
  isplitr; · iexact Hctx
  isplitl [Hst]; · iexact Hst
  isplitl [Ht Hi Ho]
  · iapply (st1 X w hw d (W (Proc.devRef .tc main_v10)))
    isplitl [Ht]; · iexact Ht
    isplitl [Hi]; · iexact Hi
    iexact Ho
  iintro ⟨Hst, Hdn⟩
  ihave Hdn := (dn1 X w hw d) $$ Hdn
  icases Hdn with ⟨Ht, Hi, Ho⟩
  iapply Hk
  isplitl [Hst]; · iexact Hst
  isplitr [Hr]
  · isplitl [Ht]; · iexact Ht
    isplitl [Hi]; · iexact Hi
    iexact Ho
  iexact Hr

end Calls

end Cert.Proof.Run

end
-- ==== Proof.Frames.lean ====
/-
  The run of the whole program from any launch memory whose row numbers lie within the table: it ends, its arguments are
  kept, its result is a function of them, and every semaphore is back at zero.
-/
module

public import proofs.«01_k».proof.Proof.Main
public import Idealize.ShloMosaic.Lib.Pipeline.Sound

@[expose] public section

noncomputable section

namespace Cert.Proof.Run

open Cert.KernelIdeal Cert.KernelIdeal.Gen Cert.Proof.Sc Cert.Proof.Tc
open Idealize.ShloMosaic Idealize.ShloMosaic.TcCoe
open Idealize.ShloMosaic.SparseCore (S V T)
open Idealize.ShloMosaic.SparseCore.Cfg (HIx Pay)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 2) (Elt F) ℕ UU ℕ

/-! ## What the core owes between calls -/

abbrev bnd (n : ℕ) : ℕ := 8 * (SparseCore.Cfg.Blocks.one 2).fst n

/-- The rest of the core's state between calls. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 2 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 2).last q)) 1)))

theorem tcSt_eq (d : Dev nD) (n : ℕ) : ((K (F := F)).tcSt EH d n : sProp 𝕄)
    = iprop(owing (F := F) (fun c => (K (F := F)).Otc c n) (bnd n) d ∗ tcRest (F := F) d n) := rfl

theorem Otc_none (n : ℕ) (c : Dev nD) (g : GSem nD τ sig) : (K (F := F)).Otc (N := 2) c n g none = 0 := by
  by_contra h
  have := SparseCore.Cfg.lev_of_Otc_pos (K := K (F := F)) (N := 2) (Nat.pos_of_ne_zero h)
  rw [show (K (F := F)).lev g none = 0 from rfl] at this
  omega

/-! ## The contents, line by line -/

section Contents

variable (m : (ℓ : Loc nD τ sig) → Buf (Elt F) ℓ)

/-- Every row number of the launch memory lies within the table. -/
def PreOK : Prop := ∀ (d : Dev nD) (x : S16384x5.Idx), ((m ((T d : Thread nD τ).loc main_arg0) : S16384x5.Idx → BitVec 32) x).toNat < 100000

theorem nums_lt (x : S16384x5.Idx → BitVec 32) (h : ∀ i, (x i).toNat < 100000) (q : Fin 2) (j : S40960.Idx) : (nums x q j).toNat < 100000 :=
  match q with
  | 0 => h _
  | 1 => h _

variable (hok : PreOK m)

def tab (d : Dev nD) : S100000x128.Idx → Elt F .f32 := padT (m ((T d : Thread nD τ).loc main_arg1))
def ws (q : Fin 2) (d : Dev nD) : S40960.Idx → BitVec 32 := nums (m ((T d : Thread nD τ).loc main_arg0)) q
include hok in
theorem ws_lt (q : Fin 2) (d : Dev nD) (x : S40960.Idx) : (ws m q d x).toNat < 100000 := nums_lt _ (hok d) q x
/-- The rows gathered by call `q`. -/
def rows (q : Fin 2) (d : Dev nD) : S40960x128.Idx → Elt F .f32 := gathered (tab m d) (ws m q d) (ws_lt m hok q d)

def W0 (d : Dev nD) : Valuation τ sig (Elt F) := fun b => m (d, b)
def W1 (d : Dev nD) : Valuation τ sig (Elt F) := after ops0 (W0 m d)
def W2 (d : Dev nD) : Valuation τ sig (Elt F) := Function.update (W1 m d) (Proc.devRef .tc main_v4) (rows m hok 0 d)
def W3 (d : Dev nD) : Valuation τ sig (Elt F) := after ops1 (W2 m hok d)
def W4 (d : Dev nD) : Valuation τ sig (Elt F) := next1 (W3 m hok) (fun c => (K (F := F)).Otc c 1) (bnd 1) d
def W5 (d : Dev nD) : Valuation τ sig (Elt F) := after ops2 (W4 m hok d)
def W6 (d : Dev nD) : Valuation τ sig (Elt F) := Function.update (W5 m hok d) (Proc.devRef .tc main_v10) (rows m hok 1 d)
def W7 (d : Dev nD) : Valuation τ sig (Elt F) := after ops3 (W6 m hok d)
def W8 (d : Dev nD) : Valuation τ sig (Elt F) := next3 (W7 m hok) (fun c => (K (F := F)).Otc c 2) (bnd 2) d
def W9 (d : Dev nD) : Valuation τ sig (Elt F) := after ops4 (W8 m hok d)

theorem W2_ne (d : Dev nD) (r : Ref sig .tc) (h : r ≠ main_v4) : W2 m hok d (Proc.devRef .tc r) = W1 m d (Proc.devRef .tc r) :=
  Function.update_of_ne (StableHlo.devRef_ne_of_ne h) _ _
theorem W6_ne (d : Dev nD) (r : Ref sig .tc) (h : r ≠ main_v10) : W6 m hok d (Proc.devRef .tc r) = W5 m hok d (Proc.devRef .tc r) :=
  Function.update_of_ne (StableHlo.devRef_ne_of_ne h) _ _
theorem W2_v4 (d : Dev nD) : W2 m hok d (Proc.devRef .tc main_v4) = rows m hok 0 d := Function.update_self _ _ _
theorem W6_v10 (d : Dev nD) : W6 m hok d (Proc.devRef .tc main_v10) = rows m hok 1 d := Function.update_self _ _ _

theorem W1_v0 (d : Dev nD) : W1 m d (Proc.devRef .tc main_v0) = tab m d := val_v0 (W0 m d)
theorem W1_v3 (d : Dev nD) : W1 m d (Proc.devRef .tc main_v3) = ws m 0 d := val_v3 (W0 m d)

/-- A buffer none of the first five lines writes, after them. -/
theorem W5_keep (d : Dev nD) (r : Ref sig .tc) (h1 : r ≠ main_v4) (h2 : r ∉ [main_v5, main_v6]) (h3 : r ≠ main_v7) (h4 : r ∉ [main_v8, main_v9]) :
    W5 m hok d (Proc.devRef .tc r) = W1 m d (Proc.devRef .tc r) := by
  rw [W5, keep2 _ r h4, W4, next1_ne _ _ _ d r h3, W3, keep1 _ r h2, W2_ne m hok d r h1]

theorem W5_v0 (d : Dev nD) : W5 m hok d (Proc.devRef .tc main_v0) = tab m d :=
  (W5_keep m hok d main_v0 (by decide) (by decide) (by decide) (by decide)).trans (W1_v0 m d)
theorem W5_v9 (d : Dev nD) : W5 m hok d (Proc.devRef .tc main_v9) = ws m 1 d := by
  refine val_v9 (W4 m hok d) ?_
  rw [W4, next1_ne _ _ _ d main_v1 (by decide), W3, keep1 _ main_v1 (by decide), W2_ne m hok d main_v1 (by decide)]
  exact val_v1 (W0 m d)

/-- A buffer no line writes, at the end. -/
theorem W9_keep (d : Dev nD) (r : Ref sig .tc) (h : r ∉ [main_c, main_call0_v0, main_v0, main_v1, main_v2, main_v3, main_v4, main_v5, main_v6, main_v7,
      main_v8, main_v9, main_v10, main_v11, main_v12, main_v13, main_v14]) : W9 m hok d (Proc.devRef .tc r) = m ((T d : Thread nD τ).loc r) := by
  simp only [List.mem_cons, List.not_mem_nil, or_false, not_or] at h
  rw [W9, keep4 _ r (by simp [h]), W8, next3_ne _ _ _ d r (by simp [h]), W7, keep3 _ r (by simp [h]), W6_ne m hok d r (by simp [h]),
    W5_keep m hok d r (by simp [h]) (by simp [h]) (by simp [h]) (by simp [h]), W1, keep0 _ r (by simp [h])]
  rfl

/-- The program's result. -/
def result (d : Dev nD) : S16384x1000.Idx → Elt F .f32 := W9 m hok d (Proc.devRef .tc main_v14)

end Contents

/-! ## @main on the TensorCore -/

variable (m : (ℓ : Loc nD τ sig) → Buf (Elt F) ℓ) (ρ : Dev nD → PrngReg) (hok : PreOK m)

abbrev PM : (K (F := F)).Pay (N := 2) (nD := nD) (Val := Elt F) (Name := ℕ) (U := UU) := P (tab m) (ws m) (ws_lt m hok)

/-- The pipelines' ghost state of one core. -/
def G (d : Dev nD) : sProp 𝕄 := iprop(ghost (F := F) 0 d ∗ ghost (F := F) 1 d)
def FIN (d : Dev nD) : sProp 𝕄 := held (T d : Thread nD τ) uc (W9 m hok d)

/-- The core's launch state, its buffers as the host lines hold them. -/
theorem tcRes_elim (d : Dev nD) : ((K (F := F)).tcRes m ρ d : sProp 𝕄)
    ⊢ iprop(boundary (T d) ∗ held (T d : Thread nD τ) uc (W0 m d) ∗ (K (F := F)).tcSems0 d) := by
  have e : (unscopedBufs d (fun b => m ((T d : Thread nD τ).loc b)) : sProp 𝕄) = held (T d : Thread nD τ) uc (W0 m d) := ub_held d (W0 m d)
  unfold SparseCore.Cfg.tcRes
  rw [e]
  iintro ⟨Hb, Hh, Hs, -⟩
  isplitl [Hb]; · iexact Hb
  isplitl [Hh] <;> iassumption

theorem wp_pipe1' (V : Dev nD → Valuation τ sig (Elt F)) (κ : GSem nD τ sig → ℕ) (d : Dev nD) (Φ : PUnit → sProp 𝕄) :
    iprop((K (F := F)).ctx EH (PM m hok) κ ∗ (K (F := F)).tcSt EH d 1 ∗ (boundary (T d) ∗ held (T d : Thread nD τ) uc (V d)) ∗ ghost (F := F) 0 d
        ∗ (((K (F := F)).tcSt EH d 1 ∗ boundary (T d) ∗ held (T d : Thread nD τ) uc (next1 V (fun c => (K (F := F)).Otc c 1) (bnd 1) d)) -∗ Φ PUnit.unit))
      ⊢ wp frame (wpE ((K (F := F)).defs (D (F := F))) 𝒱 (T d) none) Set.univ (Prog.lift (.customCall (SparseCore.inner (Pipeline.entry 0)) ())) Φ := by
  refine BIBase.Entails.trans ?_ (wp_pipe1 V (fun c => (K (F := F)).Otc c 1) (bnd 1) (Otc_none 1) d Φ)
  rw [tcSt_eq, ub_held, ub_held]
  iintro ⟨#Hctx, ⟨Ho, Hr⟩, ⟨Hb, Hh⟩, HG, Hk⟩
  isplitl [Hk Hr]
  · iintro ⟨Hb, Hh, Ho⟩
    iapply Hk
    isplitl [Ho Hr]
    · isplitl [Ho] <;> iassumption
    isplitl [Hb] <;> iassumption
  isplitl [Hb]; · iexact Hb
  isplitl [Hh Ho]
  · isplitl [Hh] <;> iassumption
  isplitr
  · iapply (SparseCore.Cfg.ctx_levAts κ); iexact Hctx
  iexact HG

theorem wp_pipe3' (V : Dev nD → Valuation τ sig (Elt F)) (κ : GSem nD τ sig → ℕ) (d : Dev nD) (Φ : PUnit → sProp 𝕄) :
    iprop((K (F := F)).ctx EH (PM m hok) κ ∗ (K (F := F)).tcSt EH d 2 ∗ (boundary (T d) ∗ held (T d : Thread nD τ) uc (V d)) ∗ ghost (F := F) 1 d
        ∗ (((K (F := F)).tcSt EH d 2 ∗ boundary (T d) ∗ held (T d : Thread nD τ) uc (next3 V (fun c => (K (F := F)).Otc c 2) (bnd 2) d)) -∗ Φ PUnit.unit))
      ⊢ wp frame (wpE ((K (F := F)).defs (D (F := F))) 𝒱 (T d) none) Set.univ (Prog.lift (.customCall (SparseCore.inner (Pipeline.entry 1)) ())) Φ := by
  refine BIBase.Entails.trans ?_ (wp_pipe3 V (fun c => (K (F := F)).Otc c 2) (bnd 2) (Otc_none 2) d Φ)
  rw [tcSt_eq, ub_held, ub_held]
  iintro ⟨#Hctx, ⟨Ho, Hr⟩, ⟨Hb, Hh⟩, HG, Hk⟩
  isplitl [Hk Hr]
  · iintro ⟨Hb, Hh, Ho⟩
    iapply Hk
    isplitl [Ho Hr]
    · isplitl [Ho] <;> iassumption
    isplitl [Hb] <;> iassumption
  isplitl [Hb]; · iexact Hb
  isplitl [Hh Ho]
  · isplitl [Hh] <;> iassumption
  isplitr
  · iapply (SparseCore.Cfg.ctx_levAts κ); iexact Hctx
  iexact HG

/-- @main on device `d`'s TensorCore. -/
theorem hmain (κ : GSem nD τ sig → ℕ) (d : Dev nD) :
    iprop((K (F := F)).ctx EH (PM m hok) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 2 ∗ FIN m hok d ∗ (K (F := F)).tcEnd d) := by
  unfold SparseCore.Cfg.tcEnd G FIN
  rw [main_eq]
  simp only [wp_bind]
  iintro ⟨#Hctx, Hst, Hres, HG0, HG1⟩
  ihave Hres := (tcRes_elim m ρ d) $$ Hres
  icases Hres with ⟨Hb, Hh, Hs⟩
  iapply (wp_line d ops0 sub0 fresh0 (W0 m d) _)
  isplitl [Hb Hh]; · isplitl [Hb] <;> iassumption
  iintro ⟨Hb, Hh⟩
  iapply (wp_call0 (tab m) (ws m) (ws_lt m hok) κ d (W1 m d) _ (W1_v0 m d) (W1_v3 m d))
  isplitr; · iexact Hctx
  isplitl [Hst]; · iexact Hst
  isplitl [Hh]; · iexact Hh
  iintro ⟨Hst, Hh⟩
  iapply (wp_line d ops1 sub1 fresh1 (W2 m hok d) _)
  isplitl [Hb Hh]
  · isplitl [Hb]; · iexact Hb
    iexact Hh
  iintro H
  iapply (wp_pipe1' m hok (W3 m hok) κ d _)
  isplitr; · iexact Hctx
  isplitl [Hst]; · iexact Hst
  isplitl [H]; · iexact H
  isplitl [HG0]; · iexact HG0
  iintro ⟨Hst, H⟩
  iapply (wp_line d ops2 sub2 fresh2 (W4 m hok d) _)
  isplitl [H]; · iexact H
  iintro ⟨Hb, Hh⟩
  iapply (wp_call1 (tab m) (ws m) (ws_lt m hok) κ d (W5 m hok d) _ (W5_v0 m hok d) (W5_v9 m hok d))
  isplitr; · iexact Hctx
  isplitl [Hst]; · iexact Hst
  isplitl [Hh]; · iexact Hh
  iintro ⟨Hst, Hh⟩
  iapply (wp_line d ops3 sub3 fresh3 (W6 m hok d) _)
  isplitl [Hb Hh]
  · isplitl [Hb]; · iexact Hb
    iexact Hh
  iintro H
  iapply (wp_pipe3' m hok (W7 m hok) κ d _)
  isplitr; · iexact Hctx
  isplitl [Hst]; · iexact Hst
  isplitl [H]; · iexact H
  isplitl [HG1]; · iexact HG1
  iintro ⟨Hst, H⟩
  iapply (wp_line d ops4 sub4 fresh4 (W8 m hok d) _)
  isplitl [H]; · iexact H
  iintro ⟨Hb, Hh⟩
  isplitl [Hst]; · iexact Hst
  isplitl [Hh]; · iexact Hh
  isplitl [Hb] <;> iassumption

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem G_eq : (bigSep Finset.univ fun c : Dev nD => G (F := F) c)
    = iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄))) := by
  rw [← bigSep_sep']
  refine bigSep_congr fun c _ => ?_
  rw [← bigSep_sep', show (Finset.univ : Finset (Fin 2)) = {0, 1} by decide, SparseCore.bigSep_insert' (by decide), bigSep_singleton]
  rfl

theorem own_pair_left (a : UP) : (BI.own ((embR : Emb (UP × Counters) 𝕄) (a, 1)) : sProp 𝕄) ⊢ BI.own (EP (F := F) a) := Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (PM m hok).x q thr) := by
  have hx : (bigSep Finset.univ fun thr : Thread nD τ => bigSep Finset.univ fun q : Fin 2 => (PM m hok).x q thr) = (iprop(emp) : sProp 𝕄) :=
    (bigSep_congr fun _ _ => bigSep_emp_const _).trans (bigSep_emp_const _)
  have hg := Pipeline.fund_ghost (nD := nD) (Pipeline.pin (pcfgs (F := F)) adm) (EP (F := F)) cellOf_inj
  rw [hx, G_eq]
  unfold u₀
  iintro Hu
  ihave H := (ownU_pair (initOf (K (F := F)).hsCells (K (F := F)).hsToks) ((initOf (Pipeline.cells (Pipeline.pin (pcfgs (F := F)) adm) cellOf_inj)
    (Pipeline.launchToks (Pipeline.pin (pcfgs (F := F)) adm) cellOf_inj), (1 : Counters)) : UP × Counters)) $$ Hu
  icases H with ⟨HH, HP⟩
  ihave HP := (own_pair_left (initOf (Pipeline.cells (Pipeline.pin (pcfgs (F := F)) adm) cellOf_inj)
    (Pipeline.launchToks (Pipeline.pin (pcfgs (F := F)) adm) cellOf_inj))) $$ HP
  imod hg $$ HP with HG
  imodintro
  isplitl [HH]; · iexact HH
  isplitl [HG]; · iexact HG
  iempintro

/-! ## The end -/

theorem fin_one (d : Dev nD) (r : Ref sig .tc) (hr : ¬ r.isScoped) :
    FIN m hok d ⊢ ((T d : Thread nD τ).loc r ↦{fullShare} W9 m hok d (Proc.devRef .tc r) : sProp 𝕄) := by
  unfold FIN held
  exact bigSep_elim (mem_uc r hr)

/-- What is read off the final memory. -/
def fq (d : Dev nD) (s' : Phys nD τ sig (Elt F)) : Prop := ∀ r : Ref sig .tc, ¬ r.isScoped → s'.mem.mem ((T d : Thread nD τ).loc r) = W9 m hok d (Proc.devRef .tc r)

theorem hfin (d : Dev nD) (s' : Phys nD τ sig (Elt F)) : iprop(FIN m hok d ∗ SI s') ⊢ (⌜fq m hok d s'⌝ : sProp 𝕄) := by
  unfold fq
  iintro ⟨Hf, HSI⟩ %r %hr
  ihave Hi := (fin_one m hok d r hr) $$ Hf
  ihave H := (SI_pointsTo_agree (st := s') (ℓ := (T d : Thread nD τ).loc r) (I := Finset.univ) (q := fullShare) (f := W9 m hok d (Proc.devRef .tc r))) $$ [HSI Hi]
  · isplitl [HSI] <;> iassumption
  icases H with %h1
  ipureintro; exact funext fun i => h1 i (Finset.mem_univ i)

def QC : PUnit × MemSt nD τ sig (Elt F) → Prop := fun r =>
  (∀ (c : Dev nD) (b : Ref sig .tc), ¬ b.isScoped → r.2.mem ((T c : Thread nD τ).loc b) = W9 m hok c (Proc.devRef .tc b)) ∧ r.2.sem = fun _ => 0

theorem run_main : θ_run (Cert.KernelIdeal.defs (F := F)) (Cert.KernelIdeal.threads (F := F)) ⟨m, fun _ => 0, ρ⟩ (QC m hok) :=
  SparseCore.Cfg.θ_run_sc_quiescent (K := K (F := F)) (D := D (F := F)) (𝒱 := 𝒱) (EH := EH) (P := PM m hok) (A := ∅) facts v₀
    (fun q hq => match q with | 0 => nomatch hq | 1 => nomatch hq)
    (fun q _ => match q with | 0 => tileObl0 (tab m) (ws m) (ws_lt m hok) facts | 1 => tileObl1 (tab m) (ws m) (ws_lt m hok) facts)
    (fun q _ => SparseCore.Cfg.VecSplit.of_plain (vecSplit (tab m) (ws m) (ws_lt m hok) q))
    m ρ main (G (F := F)) (FIN m hok) (u₀ (F := F)) (sep_elim_left.trans (hu₀ m hok)) (hmain m ρ hok) (fq m hok) (hfin m hok) (QC m hok)
    (fun _ h hz => ⟨h, hz⟩)

/-- The run at the arguments and the result. -/
theorem run_result : θ_run (Cert.KernelIdeal.defs (F := F)) (Cert.KernelIdeal.threads (F := F)) ⟨m, fun _ => 0, ρ⟩ fun r =>
    (∀ c : Dev nD, (r.2.mem (c.tc.loc main_v14) = result m hok c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) ∧ r.2.sem = fun _ => 0 :=
  (θ_run Cert.KernelIdeal.defs _ _).mono (fun _ h => ⟨fun c => ⟨h.1 c main_v14 (by decide),
    (h.1 c main_arg0 (by decide)).trans (W9_keep m hok c main_arg0 (by decide)), (h.1 c main_arg1 (by decide)).trans (W9_keep m hok c main_arg1 (by decide)),
    (h.1 c main_arg2 (by decide)).trans (W9_keep m hok c main_arg2 (by decide)), (h.1 c main_arg3 (by decide)).trans (W9_keep m hok c main_arg3 (by decide)),
    (h.1 c main_arg4 (by decide)).trans (W9_keep m hok c main_arg4 (by decide)), (h.1 c main_arg5 (by decide)).trans (W9_keep m hok c main_arg5 (by decide))⟩, h.2⟩)
    (run_main m ρ hok)

end Cert.Proof.Run

end
-- ==== Proof.Pre.lean ====
/-
  The precondition read: if `in_rows` answers true of the arguments on every device then every index of the
  index array is below the number of table rows, as the run in Frames.lean asks.
-/
module

public import proofs.«01_k».proof.Proof.Frames
public import proofs.«01_k».proof.Proof.Gen.Pre_in_rows
public import Idealize.ShloMosaic.Lib.ReduceAll

@[expose] public section

noncomputable section

namespace Cert.Proof.Run

open Idealize.ShloMosaic Idealize.SL.Sem

variable {F : FTy → Type} [FloatOps F]

/-- The conjunction of two truth values, as one-bit words. -/
theorem bit_and (p q : Bool) :
    IntOp.andi (BitVec.ofBool p) (BitVec.ofBool q) = BitVec.ofBool (p && q) := by
  cases p <;> cases q <;> decide

/-- A truth value written as a one-bit word is the word one exactly when it is true. -/
theorem bit_eq_one (p : Bool) : BitVec.ofBool p = 1#1 ↔ p = true := by
  cases p <;> decide

/-- A word that is signed at least zero and signed below 100000 is below 100000. -/
theorem lt_rows (v : BitVec 32)
    (e : IntOp.andi (IntOp.cmpi .sge v 0#32) (IntOp.cmpi .slt v 100000#32) = 1#1) :
    v.toNat < 100000 := by
  simp only [IntOp.cmpi, bit_and, bit_eq_one, Bool.and_eq_true, BitVec.sle_eq_decide,
    BitVec.slt_eq_decide, decide_eq_true_eq, BitVec.toInt_eq_toNat_cond, BitVec.toNat_ofNat,
    Nat.reducePow, Nat.reduceMod] at e
  omega

instance : Subsingleton Cert.Pre_in_rows.S_.Idx := ⟨fun a b => funext fun i => i.elim0⟩

/-- `in_rows` answering true bounds every index. -/
theorem lt_of_in_rows [Cert.Pre_in_rows.Facts] (x : IVec Cert.Pre_in_rows.S16384x5 32)
    (x1 : FVec F Cert.Pre_in_rows.S100000x64 .f32) (x2 : FVec F Cert.Pre_in_rows.S320x128 .f32)
    (x3 : FVec F Cert.Pre_in_rows.S128 .f32) (x4 : FVec F Cert.Pre_in_rows.S128x1000 .f32)
    (x5 : FVec F Cert.Pre_in_rows.S1000 .f32)
    (h : Cert.Pre_in_rows.fn (F := F) x x1 x2 x3 x4 x5 = fun _ => 1#1)
    (i : Cert.Pre_in_rows.S16384x5.Idx) : (x i).toNat < 100000 := by
  have e := congrFun h (fun k => k.elim0)
  exact lt_rows _ (Host.reduce_andi_all _ _ _ _ _ e i)

open Cert.KernelIdeal in
/-- The run of Frames.lean with its result dropped: the arguments kept and every counter zero. -/
theorem run_frame [∀ e, Nonempty (Elt F e)] (m : (ℓ : Loc nD τ sig) → Buf (Elt F) ℓ) (ρ : Dev nD → PrngReg)
    (hok : PreOK m) :
    θ_run (Cert.KernelIdeal.defs (F := F)) (Cert.KernelIdeal.threads (F := F)) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run Cert.KernelIdeal.defs _ _).mono (fun _ h => ⟨fun c => (h.1 c).2, h.2⟩) (run_result m ρ hok)

open Cert.KernelIdeal in
/-- The same run with its counters dropped: the result and the arguments. -/
theorem run_value [∀ e, Nonempty (Elt F e)] (m : (ℓ : Loc nD τ sig) → Buf (Elt F) ℓ) (ρ : Dev nD → PrngReg)
    (hok : PreOK m) :
    θ_run (Cert.KernelIdeal.defs (F := F)) (Cert.KernelIdeal.threads (F := F)) ⟨m, fun _ => 0, ρ⟩ fun r =>
      ∀ c : Dev nD,
        r.2.mem ((c.tc : Thread nD τ).loc main_v14) = result m hok c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run Cert.KernelIdeal.defs _ _).mono (fun _ h => h.1) (run_result m ρ hok)

end Cert.Proof.Run

end
-- ==== Proof.Same.lean ====
/-
  The kernel and its ideal reading are the same text over any floats: their body tables are equal, so a run of
  the one is a run of the other.
-/
module

public import proofs.«01_k».proof.Defs
public import proofs.«01_k».proof.Proof.Gen.Kernel
public import proofs.«01_k».proof.Proof.Gen.KernelIdeal

@[expose] public section

namespace Cert.Proof.Same

open Idealize.ShloMosaic

variable {F : FTy → Type} [FloatOps F]

set_option maxHeartbeats 2000000 in
/-- The kernels' bodies agree, processor by processor and label by label. -/
theorem bodies : Cert.Kernel.defs₀ (F := F) = Cert.KernelIdeal.defs₀ (F := F) := by
  funext p ℓ a
  cases p <;> fin_cases ℓ <;> rfl

/-- So do the tables over them. -/
theorem tables : Cert.Kernel.defs (F := F) = Cert.KernelIdeal.defs (F := F) :=
  congrArg (fun D => Cert.Kernel.sc.defs (Pipeline.defs Cert.Kernel.pcfgs D)) bodies

end Cert.Proof.Same
-- ==== Proof.Layers.lean ====
/-
  What one block of the dense layers' kernel computes at the ideal floats, element by element: the hidden row of a
  batch member, its row of scores, and the softmax of those.
-/
module

public import proofs.«01_k».proof.Proof.Body
public import Idealize.ShloMosaic.Lib.Pointwise
public import Idealize.ShloMosaic.PureOps.Ideal.Laws
public import Idealize.ShloMosaic.PureOps.Reduce

@[expose] public section

noncomputable section

namespace Cert.Proof.Val

open Cert.KernelIdeal Cert.KernelIdeal.Gen Cert.Proof.Tc
open Idealize.ShloMosaic

/-- The greatest of the scores, from the pattern of minus infinity up. -/
def top (o : Fin 1000 → EReal) : EReal := Finset.univ.fold max (Ideal.ofBits .f32 0xFF800000#32) o

/-- The softmax of a row of scores, its greatest taken off first. -/
def soft (o : Fin 1000 → EReal) (c : Fin 1000) : EReal :=
  Ideal.div (Ideal.exp (o c - top o)) (∑ c' : Fin 1000, Ideal.exp (o c' - top o))

/-- The hidden row of a batch member from its `5 · 64` features. -/
def hid (f : Fin 5 → Fin 64 → EReal) (w1 : Fin 320 → Fin 128 → EReal) (b1 : Fin 128 → EReal) (h : Fin 128) : EReal :=
  Ideal.tanh (b1 h + ∑ w : Fin 5, ∑ k : Fin 64, f w k * w1 ⟨64 * w + k, by omega⟩ h)

/-- Its row of scores. -/
def scores (g : Fin 128 → EReal) (w2 : Fin 128 → Fin 1000 → EReal) (b2 : Fin 1000 → EReal) (c : Fin 1000) : EReal :=
  (∑ h : Fin 128, g h * w2 h c) + b2 c

/-- The second half of a block: from the hidden rows to the softmax of the scores. -/
theorem pay1_apply (H : S1024x128.Idx → EReal) (X7 : S128x1000.Idx → EReal) (X8 : S1000x1.Idx → EReal) (c : Fin 1000) (r : Fin 1024) :
    k1_pay1 (F := Ideal) H X7 X8 (ix2 c r)
      = soft (scores (fun h => H (ix2 r h)) (fun a b => X7 (ix2 a b)) fun b => X8 (ix2 b 0)) c := by
  pointwise [k1_pay1]
  have e : scores (fun h => H (ix2 r h)) (fun a b => X7 (ix2 a b)) (fun b => X8 (ix2 b 0))
      = fun c => (∑ h : Fin 128, X7 (ix2 h c) * H (ix2 r h)) + X8 (ix2 c 0) :=
    funext fun c => by simp only [scores, mul_comm (H _)]
  rw [soft, top, e]

/-- The first half of a block: the hidden rows. -/
theorem pay2_apply (X0 X1 X2 X3 X4 : S1024x128.Idx → EReal) (X5 : S320x128.Idx → EReal) (X6 : S1x128.Idx → EReal) (r : Fin 1024) (h : Fin 128) :
    k1_pay2 (F := Ideal) X6 (half X0) (wrows X5 ![0, 0] inb_S320x128_S64x128_0_0) (half X1) (wrows X5 ![64, 0] inb_S320x128_S64x128_64_0)
        (half X2) (wrows X5 ![128, 0] inb_S320x128_S64x128_128_0) (half X3) (wrows X5 ![192, 0] inb_S320x128_S64x128_192_0)
        (half X4) (wrows X5 ![256, 0] inb_S320x128_S64x128_256_0) (ix2 r h)
      = hid (fun w k => (![X0, X1, X2, X3, X4] w) (ix2 r ⟨k, by omega⟩)) (fun a b => X5 (ix2 a b)) (fun b => X6 (ix2 0 b)) h := by
  unfold half wrows
  pointwise [k1_pay2]
  unfold hid
  rw [Fin.sum_univ_five]
  simp only [← add_assoc]
  congr 1

/-- One block of the kernel at an index. -/
theorem mlp_apply (X0 X1 X2 X3 X4 : S1024x128.Idx → EReal) (X5 : S320x128.Idx → EReal) (X6 : S1x128.Idx → EReal)
    (X7 : S128x1000.Idx → EReal) (X8 : S1000x1.Idx → EReal) (c : Fin 1000) (r : Fin 1024) :
    mlp (F := Ideal) X0 X1 X2 X3 X4 X5 X6 X7 X8 (ix2 c r)
      = soft (scores (hid (fun w k => (![X0, X1, X2, X3, X4] w) (ix2 r ⟨k, by omega⟩)) (fun a b => X5 (ix2 a b)) fun b => X6 (ix2 0 b))
          (fun a b => X7 (ix2 a b)) fun b => X8 (ix2 b 0)) c := by
  rw [mlp, pay1_apply]
  simp only [pay2_apply]

end Cert.Proof.Val

end
-- ==== Proof.Blocks.lean ====
/-
  The two pipelines' result array at the ideal floats, element by element: every block's scores are those of the
  gathered rows its five input blocks hold, and the columns before the second pipeline's stay as it found them.
-/
module

public import proofs.«01_k».proof.Proof.Layers
public import proofs.«01_k».proof.Proof.Pipes
public import proofs.«01_k».proof.Proof.Gen.KernelIdeal.Points
public import Idealize.ShloMosaic.Lib.Pipeline.Value

@[expose] public section

noncomputable section

namespace Cert.Proof.Val

open Cert.KernelIdeal Cert.KernelIdeal.Gen Cert.Proof.Tc Cert.Proof.Sc
open Idealize.ShloMosaic Idealize.ShloMosaic.TcCoe
open Idealize.ShloMosaic.SparseCore.Cfg (HIx Pay)
open Idealize.ShloMosaic.Pipeline (Dat Cfg Window)

variable (V : Dev nD → Valuation τ sig (Elt Ideal)) (O : Dev nD → CellTallies nD τ sig (HIx 2)) (b : ℕ) (c : Dev nD)

/-- A two-axis index by its coordinates' values. -/
theorem eq_ix2_of {n0 n1 : ℕ} (j : (⟨2, ![n0, n1]⟩ : Shape).Idx) (p : Fin n0) (q : Fin n1) (hp : (j 0).val = p.val) (hq : (j 1).val = q.val) :
    j = ix2 p q := by
  rw [eq_ix2 j]
  exact congrArg₂ ix2 (Fin.ext hp) (Fin.ext hq)

/-! ## The blocks' places -/

theorem place1 : ∀ t : Fin grid1.N,
    (win1_0.index t 0 = t.val ∧ win1_0.index t 1 = 0) ∧ (win1_1.index t 0 = 8 + t.val ∧ win1_1.index t 1 = 0)
    ∧ (win1_2.index t 0 = 16 + t.val ∧ win1_2.index t 1 = 0) ∧ (win1_3.index t 0 = 24 + t.val ∧ win1_3.index t 1 = 0)
    ∧ (win1_4.index t 0 = 32 + t.val ∧ win1_4.index t 1 = 0) ∧ (win1_9.index t 0 = 0 ∧ win1_9.index t 1 = t.val) := by decide +kernel
theorem place3 : ∀ t : Fin grid3.N,
    (win3_0.index t 0 = t.val ∧ win3_0.index t 1 = 0) ∧ (win3_1.index t 0 = 8 + t.val ∧ win3_1.index t 1 = 0)
    ∧ (win3_2.index t 0 = 16 + t.val ∧ win3_2.index t 1 = 0) ∧ (win3_3.index t 0 = 24 + t.val ∧ win3_3.index t 1 = 0)
    ∧ (win3_4.index t 0 = 32 + t.val ∧ win3_4.index t 1 = 0) ∧ (win3_9.index t 0 = 0 ∧ win3_9.index t 1 = 8 + t.val) := by decide +kernel

theorem whole1 : ∀ (t : Fin grid1.N) (a : Fin 2),
    win1_5.index t a = 0 ∧ win1_6.index t a = 0 ∧ win1_7.index t a = 0 ∧ win1_8.index t a = 0 := by decide +kernel
theorem whole3 : ∀ (t : Fin grid3.N) (a : Fin 2),
    win3_5.index t a = 0 ∧ win3_6.index t a = 0 ∧ win3_7.index t a = 0 ∧ win3_8.index t a = 0 := by decide +kernel

/-! ## The blocks' contents -/

/-- The gathered row of feature `w` for member `s` of a half. -/
def rowAt (w : Fin 5) (s : Fin 8192) : Fin 40960 := ⟨w * 8192 + s, by omega⟩
/-- Member `s` of the first half and of the second, in the batch. -/
def early (s : Fin 8192) : Fin 16384 := ⟨s, by omega⟩
def late (s : Fin 8192) : Fin 16384 := ⟨8192 + s, by omega⟩
/-- Member `r` of block `t`, within its half. -/
def memberAt (t : Fin 8) (r : Fin 1024) : Fin 8192 := ⟨t * 1024 + r, by omega⟩

theorem row_read (X : S40960x128.Idx → EReal) (j : S40960x128.Idx) (w : Fin 5) (t : Fin 8) (r : Fin 1024) (k : Fin 128) {p q : ℕ}
    (h0 : (j 0).val = p * 1024 + r.val) (hp : p = 8 * w + t) (h1 : (j 1).val = q * 128 + k.val) (hq : q = 0) :
    X j = X (ix2 (rowAt w (memberAt t r)) k) :=
  congrArg X (eq_ix2_of j _ _ (h0.trans (by subst hp; simp only [rowAt, memberAt]; omega)) (h1.trans (by subst hq; omega)))

theorem rows1 (t : Fin grid1.N) (w : Fin 5) (r : Fin 1024) (k : Fin 128) :
    (![blk1 V c 0 t, blk1 V c 1 t, blk1 V c 2 t, blk1 V c 3 t, blk1 V c 4 t] w : S1024x128.Idx → EReal) (ix2 r k)
      = (V c (Proc.devRef .tc main_v4) : S40960x128.Idx → EReal) (ix2 (rowAt w (memberAt (t.cast N_1) r)) k) := by
  obtain ⟨p0, p1, p2, p3, p4, -⟩ := place1 t
  match w with
  | 0 => exact row_read _ _ 0 (t.cast N_1) r k (win1_0.rect_emb_val t (ix2 r k) 0) (by simpa using p0.1) (win1_0.rect_emb_val t (ix2 r k) 1) p0.2
  | 1 => exact row_read _ _ 1 (t.cast N_1) r k (win1_1.rect_emb_val t (ix2 r k) 0) p1.1 (win1_1.rect_emb_val t (ix2 r k) 1) p1.2
  | 2 => exact row_read _ _ 2 (t.cast N_1) r k (win1_2.rect_emb_val t (ix2 r k) 0) p2.1 (win1_2.rect_emb_val t (ix2 r k) 1) p2.2
  | 3 => exact row_read _ _ 3 (t.cast N_1) r k (win1_3.rect_emb_val t (ix2 r k) 0) p3.1 (win1_3.rect_emb_val t (ix2 r k) 1) p3.2
  | 4 => exact row_read _ _ 4 (t.cast N_1) r k (win1_4.rect_emb_val t (ix2 r k) 0) p4.1 (win1_4.rect_emb_val t (ix2 r k) 1) p4.2
theorem rows3 (t : Fin grid3.N) (w : Fin 5) (r : Fin 1024) (k : Fin 128) :
    (![blk3 V c 0 t, blk3 V c 1 t, blk3 V c 2 t, blk3 V c 3 t, blk3 V c 4 t] w : S1024x128.Idx → EReal) (ix2 r k)
      = (V c (Proc.devRef .tc main_v10) : S40960x128.Idx → EReal) (ix2 (rowAt w (memberAt (t.cast N_3) r)) k) := by
  obtain ⟨p0, p1, p2, p3, p4, -⟩ := place3 t
  match w with
  | 0 => exact row_read _ _ 0 (t.cast N_3) r k (win3_0.rect_emb_val t (ix2 r k) 0) (by simpa using p0.1) (win3_0.rect_emb_val t (ix2 r k) 1) p0.2
  | 1 => exact row_read _ _ 1 (t.cast N_3) r k (win3_1.rect_emb_val t (ix2 r k) 0) p1.1 (win3_1.rect_emb_val t (ix2 r k) 1) p1.2
  | 2 => exact row_read _ _ 2 (t.cast N_3) r k (win3_2.rect_emb_val t (ix2 r k) 0) p2.1 (win3_2.rect_emb_val t (ix2 r k) 1) p2.2
  | 3 => exact row_read _ _ 3 (t.cast N_3) r k (win3_3.rect_emb_val t (ix2 r k) 0) p3.1 (win3_3.rect_emb_val t (ix2 r k) 1) p3.2
  | 4 => exact row_read _ _ 4 (t.cast N_3) r k (win3_4.rect_emb_val t (ix2 r k) 0) p4.1 (win3_4.rect_emb_val t (ix2 r k) 1) p4.2

theorem weights1 (t : Fin grid1.N) : blk1 V c 5 t = V c (Proc.devRef .tc main_arg2) ∧ blk1 V c 6 t = V c (Proc.devRef .tc main_v5)
    ∧ blk1 V c 7 t = V c (Proc.devRef .tc main_arg4) ∧ blk1 V c 8 t = V c (Proc.devRef .tc main_v6) :=
  ⟨funext fun j => congrArg (V c (Proc.devRef .tc main_arg2) : S320x128.Idx → EReal)
      (funext fun a => Fin.ext (win1_5.rect_emb_val_of_index_zero t a (whole1 t a).1 j)),
    funext fun j => congrArg (V c (Proc.devRef .tc main_v5) : S1x128.Idx → EReal)
      (funext fun a => Fin.ext (win1_6.rect_emb_val_of_index_zero t a (whole1 t a).2.1 j)),
    funext fun j => congrArg (V c (Proc.devRef .tc main_arg4) : S128x1000.Idx → EReal)
      (funext fun a => Fin.ext (win1_7.rect_emb_val_of_index_zero t a (whole1 t a).2.2.1 j)),
    funext fun j => congrArg (V c (Proc.devRef .tc main_v6) : S1000x1.Idx → EReal)
      (funext fun a => Fin.ext (win1_8.rect_emb_val_of_index_zero t a (whole1 t a).2.2.2 j))⟩
theorem weights3 (t : Fin grid3.N) : blk3 V c 5 t = V c (Proc.devRef .tc main_arg2) ∧ blk3 V c 6 t = V c (Proc.devRef .tc main_v11)
    ∧ blk3 V c 7 t = V c (Proc.devRef .tc main_arg4) ∧ blk3 V c 8 t = V c (Proc.devRef .tc main_v12) :=
  ⟨funext fun j => congrArg (V c (Proc.devRef .tc main_arg2) : S320x128.Idx → EReal)
      (funext fun a => Fin.ext (win3_5.rect_emb_val_of_index_zero t a (whole3 t a).1 j)),
    funext fun j => congrArg (V c (Proc.devRef .tc main_v11) : S1x128.Idx → EReal)
      (funext fun a => Fin.ext (win3_6.rect_emb_val_of_index_zero t a (whole3 t a).2.1 j)),
    funext fun j => congrArg (V c (Proc.devRef .tc main_arg4) : S128x1000.Idx → EReal)
      (funext fun a => Fin.ext (win3_7.rect_emb_val_of_index_zero t a (whole3 t a).2.2.1 j)),
    funext fun j => congrArg (V c (Proc.devRef .tc main_v12) : S1000x1.Idx → EReal)
      (funext fun a => Fin.ext (win3_8.rect_emb_val_of_index_zero t a (whole3 t a).2.2.2 j))⟩

/-- The score of class `o` for member `s` of a half, from the half's gathered rows. -/
def scored (X : S40960x128.Idx → EReal) (w1 : S320x128.Idx → EReal) (b1 : S1x128.Idx → EReal) (w2 : S128x1000.Idx → EReal)
    (b2 : S1000x1.Idx → EReal) (s : Fin 8192) (o : Fin 1000) : EReal :=
  soft (scores (hid (fun w k => X (ix2 (rowAt w s) ⟨k, by omega⟩)) (fun a b => w1 (ix2 a b)) fun b => b1 (ix2 0 b))
    (fun a b => w2 (ix2 a b)) fun b => b2 (ix2 b 0)) o

theorem res1_apply (t : Fin grid1.N) (r : Fin 1024) (o : Fin 1000) : res1 V c t (ix2 o r)
    = scored (V c (Proc.devRef .tc main_v4)) (V c (Proc.devRef .tc main_arg2)) (V c (Proc.devRef .tc main_v5)) (V c (Proc.devRef .tc main_arg4))
        (V c (Proc.devRef .tc main_v6)) (memberAt (t.cast N_1) r) o := by
  obtain ⟨e5, e6, e7, e8⟩ := weights1 V c t
  unfold res1 scored
  rw [mlp_apply, e5, e6, e7, e8]
  exact congrArg (fun f => soft (scores (hid f _ _) _ _) o) (funext fun w => funext fun k => rows1 V c t w r ⟨k, by omega⟩)
theorem res3_apply (t : Fin grid3.N) (r : Fin 1024) (o : Fin 1000) : res3 V c t (ix2 o r)
    = scored (V c (Proc.devRef .tc main_v10)) (V c (Proc.devRef .tc main_arg2)) (V c (Proc.devRef .tc main_v11)) (V c (Proc.devRef .tc main_arg4))
        (V c (Proc.devRef .tc main_v12)) (memberAt (t.cast N_3) r) o := by
  obtain ⟨e5, e6, e7, e8⟩ := weights3 V c t
  unfold res3 scored
  rw [mlp_apply, e5, e6, e7, e8]
  exact congrArg (fun f => soft (scores (hid f _ _) _ _) o) (funext fun w => funext fun k => rows3 V c t w r ⟨k, by omega⟩)

/-! ## The result's array -/

theorem col1 (t : Fin grid1.N) (o : Fin 1000) (r : Fin 1024) :
    ((win1_9.rect t).emb (ix2 o r) : S1000x16384.Idx) = ix2 o (early (memberAt (t.cast N_1) r)) := by
  obtain ⟨-, -, -, -, -, p⟩ := place1 t
  refine eq_ix2_of _ _ _ ((win1_9.rect_emb_val t (ix2 o r) 0).trans ?_) ((win1_9.rect_emb_val t (ix2 o r) 1).trans ?_)
  · rw [p.1, Nat.zero_mul]; exact Nat.zero_add _
  · rw [p.2]; rfl
theorem col3 (t : Fin grid3.N) (o : Fin 1000) (r : Fin 1024) :
    ((win3_9.rect t).emb (ix2 o r) : S1000x16384.Idx) = ix2 o (late (memberAt (t.cast N_3) r)) := by
  obtain ⟨-, -, -, -, -, p⟩ := place3 t
  refine eq_ix2_of _ _ _ ((win3_9.rect_emb_val t (ix2 o r) 0).trans ?_) ((win3_9.rect_emb_val t (ix2 o r) 1).trans ?_)
  · rw [p.1, Nat.zero_mul]; exact Nat.zero_add _
  · rw [p.2]
    show (8 + t.val) * 1024 + r.val = 8192 + (t.val * 1024 + r.val)
    omega

theorem mem_col1 (t : Fin grid1.N) (i : S1000x16384.Idx) (h : i ∈ ((cfg1.win 9).blk t).view.set) :
    t.val * 1024 ≤ (i 1).val ∧ (i 1).val < t.val * 1024 + 1024 := by
  obtain ⟨y, rfl⟩ := View.exists_emb_of_mem_set _ h
  have hy : (y 1).val < 1024 := (y 1).isLt
  have e : ((((cfg1.win 9).blk t).view.emb y : S1000x16384.Idx) 1).val = win1_9.index t 1 * 1024 + (y 1).val := win1_9.rect_emb_val t y 1
  rw [e, (place1 t).2.2.2.2.2.2]
  omega
theorem mem_col3 (t : Fin grid3.N) (i : S1000x16384.Idx) (h : i ∈ ((cfg3.win 9).blk t).view.set) :
    (8 + t.val) * 1024 ≤ (i 1).val ∧ (i 1).val < (8 + t.val) * 1024 + 1024 := by
  obtain ⟨y, rfl⟩ := View.exists_emb_of_mem_set _ h
  have hy : (y 1).val < 1024 := (y 1).isLt
  have e : ((((cfg3.win 9).blk t).view.emb y : S1000x16384.Idx) 1).val = win3_9.index t 1 * 1024 + (y 1).val := win3_9.rect_emb_val t y 1
  rw [e, (place3 t).2.2.2.2.2.2]
  omega

theorem out1_apply (s : Fin 8192) (o : Fin 1000) : out1 V O b c (ix2 o (early s))
    = scored (V c (Proc.devRef .tc main_v4)) (V c (Proc.devRef .tc main_arg2)) (V c (Proc.devRef .tc main_v5)) (V c (Proc.devRef .tc main_arg4))
        (V c (Proc.devRef .tc main_v6)) s o := by
  have hN : (8 : ℕ) = grid1.N := N_1.symm
  let t : Fin grid1.N := Fin.cast hN ⟨s / 1024, by omega⟩
  let r : Fin 1024 := ⟨s % 1024, by omega⟩
  have hs : memberAt (t.cast N_1) r = s := Fin.ext (by show s.val / 1024 * 1024 + s.val % 1024 = s.val; omega)
  have hd : ∀ t t' : Fin cfg1.N, (cfg1.win 9).flush t = true → (cfg1.win 9).flush t' = true → t ≠ t' →
      Disjoint ((cfg1.win 9).blk t).view.set ((cfg1.win 9).blk t').view.set := fun t t' _ _ ne =>
    Finset.disjoint_left.2 fun i hi hi' => ne (Fin.ext (by have := mem_col1 t i hi; have := mem_col1 t' i hi'; omega))
  have h := (dat1 V O b c).arrAt_emb_eq_flushed 9 hd t (flush1_9 t) (ix2 o r)
  have e := col1 t o r
  rw [hs] at e
  rw [← e]
  refine h.trans ?_
  show res1 V c t (ix2 o r) = _
  rw [res1_apply, hs]
theorem out3_apply (s : Fin 8192) (o : Fin 1000) : out3 V O b c (ix2 o (late s))
    = scored (V c (Proc.devRef .tc main_v10)) (V c (Proc.devRef .tc main_arg2)) (V c (Proc.devRef .tc main_v11)) (V c (Proc.devRef .tc main_arg4))
        (V c (Proc.devRef .tc main_v12)) s o := by
  have hN : (8 : ℕ) = grid3.N := N_3.symm
  let t : Fin grid3.N := Fin.cast hN ⟨s / 1024, by omega⟩
  let r : Fin 1024 := ⟨s % 1024, by omega⟩
  have hs : memberAt (t.cast N_3) r = s := Fin.ext (by show s.val / 1024 * 1024 + s.val % 1024 = s.val; omega)
  have hd : ∀ t t' : Fin cfg3.N, (cfg3.win 9).flush t = true → (cfg3.win 9).flush t' = true → t ≠ t' →
      Disjoint ((cfg3.win 9).blk t).view.set ((cfg3.win 9).blk t').view.set := fun t t' _ _ ne =>
    Finset.disjoint_left.2 fun i hi hi' => ne (Fin.ext (by have := mem_col3 t i hi; have := mem_col3 t' i hi'; omega))
  have h := (dat3 V O b c).arrAt_emb_eq_flushed 9 hd t (flush3_9 t) (ix2 o r)
  have e := col3 t o r
  rw [hs] at e
  rw [← e]
  refine h.trans ?_
  show res3 V c t (ix2 o r) = _
  rw [res3_apply, hs]

/-- The second pipeline writes no column of the first half. -/
theorem out3_low (s : Fin 8192) (o : Fin 1000) :
    out3 V O b c (ix2 o (early s)) = (V c (Proc.devRef .tc main_v13) : S1000x16384.Idx → EReal) (ix2 o (early s)) :=
  (dat3 V O b c).arrAt_apply_of_forall_not_mem 9 cfg3.N (ix2 o (early s)) fun t _ _ hi => by
    have h := (mem_col3 t _ hi).1
    have h' : (8 + t.val) * 1024 ≤ s.val := h
    omega

end Cert.Proof.Val

end
-- ==== Proof.Wanted.lean ====
/-
  What the reference computes at the ideal floats, element by element, where every index names a row of the table:
  the same hidden row, scores and softmax as Layers.lean finds in the kernel's block.
-/
module

public import proofs.«01_k».proof.Proof.Layers
public import proofs.«01_k».proof.Proof.Gen.ReferenceIdeal.Run
public import Idealize.ShloMosaic.Lib.KernelVsHost
public import Idealize.ShloMosaic.Lib.ReduceAll

@[expose] public section

noncomputable section

namespace Cert.Proof.Val

open Cert.ReferenceIdeal Cert.ReferenceIdeal.Gen
open Idealize.ShloMosaic Idealize.ShloMosaic.TcCoe

/-! ## The reference's terms, in four stages -/

/-- The row numbers as the lookup reads them: a negative one counts from the table's end. -/
def wrapped (x : IVec S16384x5 32) : IVec S16384x5x1 32 :=
  broadcastInDim S16384x5x1 ![0, 1] bcast_S16384x5_S16384x5x1_0_1
    (select (cmpi .slt x (broadcastInDim S16384x5 ![] bcast_S_S16384x5 (constantI S_ 32 0#32)))
      (addi x (broadcastInDim S16384x5 ![] bcast_S_S16384x5 (constantI S_ 32 100000#32))) x)

/-- Which of them are in the table. -/
def inside (x : IVec S16384x5 32) : IVec S16384x5x1 1 :=
  andi (cmpi .sge (wrapped x) (broadcastInDim S16384x5x1 ![] bcast_S_S16384x5x1 (constantI S_ 32 0#32)))
    (cmpi .sle (wrapped x) (broadcastInDim S16384x5x1 ![0, 1, 2] bcast_S1x1x1_S16384x5x1_0_1_2
      (broadcastInDim S1x1x1 ![2] bcast_S1_S1x1x1_2 (constantI S1 32 99999#32))))

/-- The rows looked up. -/
def taken (t : FVec Ideal S100000x64 .f32) (x : IVec S16384x5 32) : FVec Ideal S16384x5x64 .f32 :=
  select (broadcastInDim S16384x5x64 ![0, 1] bcast_S16384x5_S16384x5x64_0_1
      (Host.reduce IntOp.andi (inside x) (constantI S_ 1 1#1) reducesTo_S16384x5x1_S16384x5_d2 h_S_))
    (Host.gather gather_S100000x64_S16384x5x1_S16384x5x64_2_0_n_n_0_2_164 t (wrapped x))
    (broadcastInDim S16384x5x64 ![] bcast_S_S16384x5x64 (constant S_ .f32 0x7FC00000#32))

/-- The scores of every batch member. -/
def logits (E : FVec Ideal S16384x5x64 .f32) (w1 : FVec Ideal S320x128 .f32) (b1 : FVec Ideal S128 .f32)
    (w2 : FVec Ideal S128x1000 .f32) (b2 : FVec Ideal S1000 .f32) : FVec Ideal S16384x1000 .f32 :=
  addf (Host.dotGeneral dot_S16384x128_S128x1000_S16384x1000_1_0_0_1_n_n none
      (Host.tanh (addf (Host.dotGeneral dot_S16384x320_S320x128_S16384x128_1_0_0_1_n_n none
          (shapeCast S16384x320 E shapeCasts_S16384x5x64_S16384x320) w1)
        (broadcastInDim S16384x128 ![0, 1] bcast_S1x128_S16384x128_0_1 (broadcastInDim S1x128 ![1] bcast_S128_S1x128_1 b1)))) w2)
    (broadcastInDim S16384x1000 ![0, 1] bcast_S1x1000_S16384x1000_0_1 (broadcastInDim S1x1000 ![1] bcast_S1000_S1x1000_1 b2))

/-- The greatest score of every batch member. -/
def maxima (L : FVec Ideal S16384x1000 .f32) : FVec Ideal S16384 .f32 :=
  Host.reduce FloatOps.maximumf L (constant S_ .f32 0xFF800000#32) reducesTo_S16384x1000_S16384_d1 h_S_

/-- A number per batch member, at every score of the member's. -/
def spread (R : FVec Ideal S16384 .f32) : FVec Ideal S16384x1000 .f32 :=
  broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32)) R))

/-- The softmax of every row of scores. -/
def softmaxed (L : FVec Ideal S16384x1000 .f32) : FVec Ideal S16384x1000 .f32 :=
  Host.divf (Host.exp (subf L (spread (maxima L))))
    (broadcastInDim S16384x1000 ![0, 1] bcast_S16384x1_S16384x1000_0_1 (broadcastInDim S16384x1 ![0] bcast_S16384_S16384x1_0
      (Host.reduceAdd (Host.exp (subf L (spread (maxima L)))) (constant S_ .f32 0x00000000#32) reducesTo_S16384x1000_S16384_d1 h_S_)))

theorem reference_eq (m : (ℓ : Loc nD τ sig) → Buf (Elt Ideal) ℓ) (c : Dev nD) :
    Value.res_main_v21 (F := Ideal) m c
      = softmaxed (logits (taken (m ((c.tc : Thread nD τ).loc main_arg1)) (m ((c.tc : Thread nD τ).loc main_arg0)))
          (m ((c.tc : Thread nD τ).loc main_arg2)) (m ((c.tc : Thread nD τ).loc main_arg3))
          (m ((c.tc : Thread nD τ).loc main_arg4)) (m ((c.tc : Thread nD τ).loc main_arg5))) := rfl

/-! ## Each at an index -/

/-- The lookup, an element at a time. -/
theorem gather_apply (t : S100000x64.Idx → EReal) (x : IVec S16384x5x1 32) (i : Fin 16384) (w : Fin 5) (k : Fin 64) :
    Host.gather gather_S100000x64_S16384x5x1_S16384x5x64_2_0_n_n_0_2_164 t x (ix3 i w k)
      = t (ix2 ⟨min (x (ix3 i w 0)).toInt.toNat 99999, by omega⟩ k) := by
  have at0 : (gather_S100000x64_S16384x5x1_S16384x5x64_2_0_n_n_0_2_164).siIdx (ix3 i w k) ⟨0, by decide⟩ = ix3 i w 0 := by
    funext b
    fin_cases b <;> rfl
  unfold Host.gather
  refine congrArg t (funext fun a => Fin.ext ?_)
  show GatherDims.start _ _ _ _ + GatherDims.batchCoord _ _ _ + GatherDims.offCoord _ _ _ = _
  rw [GatherDims.batchCoord_eq_zero _ _ _ List.not_mem_nil, Nat.add_zero]
  fin_cases a
  · rw [GatherDims.offCoord_eq_zero _ _ _ (by decide), Nat.add_zero]
    unfold GatherDims.start
    rw [dif_pos (by decide)]
    exact congrArg (fun v : BitVec 32 => min v.toInt.toNat 99999) (congrArg x at0)
  · unfold GatherDims.start GatherDims.offCoord
    rw [dif_neg (by decide), dif_pos (by decide), Nat.zero_add]
    rfl

/-- A word below the table's height is not negative. -/
theorem toInt_small (v : BitVec 32) (h : v.toNat < 100000) : v.toInt = v.toNat := by
  rw [BitVec.toInt_eq_toNat_cond, if_pos (by omega)]

theorem wrapped_apply (x : IVec S16384x5 32) (i : Fin 16384) (w : Fin 5) (h : (x (ix2 i w)).toNat < 100000) :
    wrapped x (ix3 i w 0) = x (ix2 i w) := by
  pointwise [wrapped]
  have e : ¬ (x (ix2 i w)).toInt < (0#32 : BitVec 32).toInt := by rw [toInt_small _ h]; simp
  have n : ¬ IntOp.cmpi .slt (x (ix2 i w)) 0#32 = 1#1 := fun q => e (IntOp.cmpi_slt.1 q)
  exact if_neg n

theorem inside_apply (x : IVec S16384x5 32) (i : Fin 16384) (w : Fin 5) (h : (x (ix2 i w)).toNat < 100000) :
    inside x (ix3 i w 0) = 1#1 := by
  pointwise [inside]
  rw [wrapped_apply x i w h]
  have e := toInt_small _ h
  rw [IntOp.cmpi_sge.2 (by rw [e]; simp), IntOp.cmpi_sle.2 (by rw [e]; simp; omega)]
  rfl

theorem taken_apply (t : S100000x64.Idx → EReal) (x : IVec S16384x5 32) (i : Fin 16384) (w : Fin 5) (k : Fin 64)
    (h : (x (ix2 i w)).toNat < 100000) : taken t x (ix3 i w k) = t (ix2 ⟨(x (ix2 i w)).toNat, h⟩ k) := by
  pointwise [taken]
  have e : (fun z : Fin 1 => inside x (ix3 i w z)) = fun _ => 1#1 := funext fun z => by
    rw [Subsingleton.elim z 0]
    exact inside_apply x i w h
  rw [e, gather_apply]
  refine congrArg (fun r => t (ix2 r k)) (Fin.ext ?_)
  show min (wrapped x (ix3 i w 0)).toInt.toNat 99999 = _
  rw [wrapped_apply x i w h, toInt_small _ h]
  simp only [Int.toNat_natCast]
  omega

theorem logits_apply (E : FVec Ideal S16384x5x64 .f32) (w1 : FVec Ideal S320x128 .f32) (b1 : FVec Ideal S128 .f32)
    (w2 : FVec Ideal S128x1000 .f32) (b2 : FVec Ideal S1000 .f32) (i : Fin 16384) (c : Fin 1000) :
    logits E w1 b1 w2 b2 (ix2 i c)
      = scores (hid (fun w k => E (ix3 i w k)) (fun a b => w1 (ix2 a b)) fun b => b1 (ix1 b)) (fun a b => w2 (ix2 a b)) (fun b => b2 (ix1 b)) c := by
  pointwise [logits]
  unfold scores hid
  refine congrArg (· + b2 (ix1 c)) (Finset.sum_congr rfl fun h _ => congrArg (fun e => Ideal.tanh e * w2 (ix2 h c)) ?_)
  rw [add_comm]
  refine congrArg (b1 (ix1 h) + ·) ?_
  rw [← (finProdFinEquiv (m := 5) (n := 64)).sum_comp, Fintype.sum_prod_type]
  refine Finset.sum_congr rfl fun w _ => Finset.sum_congr rfl fun k _ => ?_
  have e1 : (k.val + 64 * w.val) / 64 = w.val := by omega
  have e2 : (k.val + 64 * w.val) % 64 = k.val := by omega
  have e3 : k.val + 64 * w.val = 64 * w.val + k.val := by omega
  simp only [finProdFinEquiv_apply_val, e1, e2]
  exact congrArg (fun a => E (ix3 i w k) * w1 (ix2 a h)) (Fin.ext e3)

theorem maxima_apply (L : FVec Ideal S16384x1000 .f32) (i : Fin 16384) : maxima L (ix1 i) = top (fun c => L (ix2 i c)) := by
  unfold maxima
  rw [hostReduce_maximumf_eq_multiReduction L _ reducesTo_S16384x1000_S16384_d1 h_S_ (by decide) (by decide) (by decide)]
  pointwise
  rfl

theorem spread_apply (R : FVec Ideal S16384 .f32) (i : Fin 16384) (c : Fin 1000) :
    spread R (ix2 i c) = max (Ideal.ofBits .f32 0xFF800000#32) (R (ix1 i)) := by
  pointwise [spread]

theorem spread_maxima_apply (L : FVec Ideal S16384x1000 .f32) (i : Fin 16384) (c : Fin 1000) :
    spread (maxima L) (ix2 i c) = top (fun c => L (ix2 i c)) := by
  rw [spread_apply, maxima_apply]
  exact max_eq_right ((Finset.le_fold_max _).2 (Or.inl le_rfl))

theorem softmaxed_apply (L : FVec Ideal S16384x1000 .f32) (i : Fin 16384) (c : Fin 1000) :
    softmaxed L (ix2 i c) = soft (fun c => L (ix2 i c)) c := by
  pointwise [softmaxed]
  simp only [spread_maxima_apply]
  rfl

/-- The whole of it: the score of class `c` for batch member `i`, from the table's rows at the member's five numbers. -/
def wanted (x : S16384x5.Idx → BitVec 32) (hx : ∀ i, (x i).toNat < 100000) (t : S100000x64.Idx → EReal) (w1 : S320x128.Idx → EReal)
    (b1 : S128.Idx → EReal) (w2 : S128x1000.Idx → EReal) (b2 : S1000.Idx → EReal) (i : Fin 16384) (c : Fin 1000) : EReal :=
  soft (scores (hid (fun w k => t (ix2 ⟨(x (ix2 i w)).toNat, hx _⟩ k)) (fun a b => w1 (ix2 a b)) fun b => b1 (ix1 b))
    (fun a b => w2 (ix2 a b)) fun b => b2 (ix1 b)) c

theorem reference_apply (m : (ℓ : Loc nD τ sig) → Buf (Elt Ideal) ℓ) (c : Dev nD)
    (hx : ∀ i, ((m ((c.tc : Thread nD τ).loc main_arg0) : S16384x5.Idx → BitVec 32) i).toNat < 100000) (i : Fin 16384) (o : Fin 1000) :
    Value.res_main_v21 (F := Ideal) m c (ix2 i o)
      = wanted (m ((c.tc : Thread nD τ).loc main_arg0)) hx (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) i o := by
  rw [reference_eq, softmaxed_apply]
  unfold wanted
  refine congrArg (soft · o) (funext fun c' => ?_)
  rw [logits_apply]
  refine congrArg (fun f => scores (hid f _ _) _ _ c') (funext fun w => funext fun k => ?_)
  exact taken_apply _ _ i w k (hx _)

end Cert.Proof.Val

end
-- ==== Proof.Value.lean ====
/-
  The kernel's result at the ideal floats, element by element: what the reference computes.
-/
module

public import proofs.«01_k».proof.Proof.Blocks
public import proofs.«01_k».proof.Proof.Frames
public import proofs.«01_k».proof.Proof.Wanted

@[expose] public section

noncomputable section

namespace Cert.Proof.Val

open Cert.KernelIdeal Cert.KernelIdeal.Gen Cert.Proof.Sc Cert.Proof.Tc Cert.Proof.Run
open Idealize.ShloMosaic Idealize.ShloMosaic.TcCoe
open Idealize.ShloMosaic.SparseCore (S V T)
open Idealize.ShloMosaic.StableHlo (after)

/-! ## The gathered rows -/

theorem padT_apply (t : S100000x64.Idx → EReal) (n : Fin 100000) (k : Fin 64) :
    padT (F := Ideal) t (ix2 n ⟨k, by omega⟩) = t (ix2 n k) := by
  pointwise [padT]

/-- Member `s` of half `q`, in the batch. -/
def inBatch (q : Fin 2) (s : Fin 8192) : Fin 16384 := match q with
  | 0 => early s
  | 1 => late s

theorem nums_apply (x : S16384x5.Idx → BitVec 32) (q : Fin 2) (w : Fin 5) (s : Fin 8192) :
    nums x q (ix1 (rowAt w s)) = x (ix2 (inBatch q s) w) := by
  have e1 : (rowAt w s).val / 8192 = w.val := by simp only [rowAt]; omega
  have e2 : (rowAt w s).val % 8192 = s.val := by simp only [rowAt]; omega
  match q with
  | 0 =>
    pointwise [nums, xT]
    exact congrArg x (congrArg₂ ix2 (Fin.ext e2) (Fin.ext e1))
  | 1 =>
    pointwise [nums, xT]
    exact congrArg x (congrArg₂ ix2 (Fin.ext (congrArg (8192 + ·) e2)) (Fin.ext e1))

theorem gathered_apply (X : S100000x128.Idx → EReal) (w : S40960.Idx → BitVec 32) (hw : ∀ x, (w x).toNat < 100000) (n : Fin 40960) (k : Fin 128) :
    gathered (F := Ideal) X w hw (ix2 n k) = X (ix2 ⟨(w (ix1 n)).toNat, hw _⟩ k) := by
  have e : (fun | 0 => n : S40960.Idx) = ix1 n := funext fun a => match a with | 0 => rfl
  refine congrArg X (eq_ix2_of _ _ _ ?_ rfl)
  show (w (fun | 0 => n)).toNat = _
  rw [e]

theorem bias1_apply (b1 : S128.Idx → EReal) (h : Fin 128) : shapeCast S1x128 b1 shapeCasts_S128_S1x128 (ix2 0 h) = b1 (ix1 h) := by
  pointwise
theorem bias2_apply (b2 : S1000.Idx → EReal) (o : Fin 1000) : shapeCast S1000x1 b2 shapeCasts_S1000_S1000x1 (ix2 o 0) = b2 (ix1 o) := by
  pointwise

variable (m : (ℓ : Loc nD τ sig) → Buf (Elt Ideal) ℓ) (hok : PreOK m) (d : Dev nD)

theorem rows_apply (q : Fin 2) (w : Fin 5) (s : Fin 8192) (k : Fin 64) : rows m hok q d (ix2 (rowAt w s) ⟨k, by omega⟩)
    = (m ((T d : Thread nD τ).loc main_arg1) : S100000x64.Idx → EReal)
        (ix2 ⟨((m ((T d : Thread nD τ).loc main_arg0) : S16384x5.Idx → BitVec 32) (ix2 (inBatch q s) w)).toNat, hok d _⟩ k) := by
  unfold rows
  rw [gathered_apply]
  unfold tab
  rw [padT_apply]
  exact congrArg (fun r => (m ((T d : Thread nD τ).loc main_arg1) : S100000x64.Idx → EReal) (ix2 r k))
    (Fin.ext (congrArg BitVec.toNat (nums_apply (m ((T d : Thread nD τ).loc main_arg0)) q w s)))

/-- A half's scores are the reference's. -/
theorem scored_rows (q : Fin 2) (s : Fin 8192) (o : Fin 1000) :
    scored (rows m hok q d) (m ((T d : Thread nD τ).loc main_arg2)) (shapeCast S1x128 (m ((T d : Thread nD τ).loc main_arg3)) shapeCasts_S128_S1x128)
        (m ((T d : Thread nD τ).loc main_arg4)) (shapeCast S1000x1 (m ((T d : Thread nD τ).loc main_arg5)) shapeCasts_S1000_S1000x1) s o
      = wanted (m ((T d : Thread nD τ).loc main_arg0)) (hok d) (m ((T d : Thread nD τ).loc main_arg1)) (m ((T d : Thread nD τ).loc main_arg2))
          (m ((T d : Thread nD τ).loc main_arg3)) (m ((T d : Thread nD τ).loc main_arg4)) (m ((T d : Thread nD τ).loc main_arg5)) (inBatch q s) o := by
  unfold scored wanted
  simp only [rows_apply, bias1_apply, bias2_apply]

/-! ## The program's buffers -/

/-- An argument's contents, before each pipeline. -/
theorem W2_arg (r : Ref sig .tc) (h0 : r ∉ [main_c, main_call0_v0, main_v0, main_v1, main_v2, main_v3]) (h : r ≠ main_v4) :
    W2 m hok d (Proc.devRef .tc r) = m ((T d : Thread nD τ).loc r) := by
  rw [W2_ne m hok d r h, W1, keep0 _ r h0]
  rfl
theorem W6_arg (r : Ref sig .tc) (h0 : r ∉ [main_c, main_call0_v0, main_v0, main_v1, main_v2, main_v3]) (h : r ∉ [main_v4, main_v5, main_v6, main_v7,
    main_v8, main_v9, main_v10]) : W6 m hok d (Proc.devRef .tc r) = m ((T d : Thread nD τ).loc r) := by
  simp only [List.mem_cons, List.not_mem_nil, or_false, not_or] at h
  rw [W6_ne m hok d r (by simp [h]), W5_keep m hok d r (by simp [h]) (by simp [h]) (by simp [h]) (by simp [h]), W1, keep0 _ r h0]
  rfl

/-- The first pipeline's result, as the second finds it. -/
theorem first_half (s : Fin 8192) (o : Fin 1000) : (W7 m hok d (Proc.devRef .tc main_v13) : S1000x16384.Idx → EReal) (ix2 o (early s))
    = wanted (m ((T d : Thread nD τ).loc main_arg0)) (hok d) (m ((T d : Thread nD τ).loc main_arg1)) (m ((T d : Thread nD τ).loc main_arg2))
        (m ((T d : Thread nD τ).loc main_arg3)) (m ((T d : Thread nD τ).loc main_arg4)) (m ((T d : Thread nD τ).loc main_arg5)) (early s) o := by
  have e : W7 m hok d (Proc.devRef .tc main_v13) = out1 (W3 m hok) (fun c => (K (F := Ideal)).Otc c 1) (bnd 1) d := by
    rw [W7, val_v13, W6_ne m hok d main_v7 (by decide), W5, keep2 _ main_v7 (by decide), W4, next1_out]
  rw [e, out1_apply, W3, val_v5, val_v6, keep1 _ main_v4 (by decide), keep1 _ main_arg2 (by decide), keep1 _ main_arg4 (by decide), W2_v4,
    W2_arg m hok d main_arg2 (by decide) (by decide), W2_arg m hok d main_arg3 (by decide) (by decide),
    W2_arg m hok d main_arg4 (by decide) (by decide), W2_arg m hok d main_arg5 (by decide) (by decide)]
  exact scored_rows m hok d 0 s o

/-- The result at the end, its rows the classes. -/
theorem last_apply (i : Fin 16384) (o : Fin 1000) : (W8 m hok d (Proc.devRef .tc main_v13) : S1000x16384.Idx → EReal) (ix2 o i)
    = wanted (m ((T d : Thread nD τ).loc main_arg0)) (hok d) (m ((T d : Thread nD τ).loc main_arg1)) (m ((T d : Thread nD τ).loc main_arg2))
        (m ((T d : Thread nD τ).loc main_arg3)) (m ((T d : Thread nD τ).loc main_arg4)) (m ((T d : Thread nD τ).loc main_arg5)) i o := by
  rw [W8, next3_out]
  by_cases h : i.val < 8192
  · have e : i = early ⟨i, h⟩ := rfl
    rw [e, out3_low]
    exact first_half m hok d ⟨i, h⟩ o
  · have e : i = late ⟨i - 8192, by omega⟩ := Fin.ext (by simp only [late]; omega)
    rw [e, out3_apply, W7, val_v11, val_v12, keep3 _ main_v10 (by decide), keep3 _ main_arg2 (by decide), keep3 _ main_arg4 (by decide), W6_v10,
      W6_arg m hok d main_arg2 (by decide) (by decide), W6_arg m hok d main_arg3 (by decide) (by decide),
      W6_arg m hok d main_arg4 (by decide) (by decide), W6_arg m hok d main_arg5 (by decide) (by decide)]
    exact scored_rows m hok d 1 _ o

theorem result_apply (i : Fin 16384) (o : Fin 1000) : result m hok d (ix2 i o)
    = wanted (m ((T d : Thread nD τ).loc main_arg0)) (hok d) (m ((T d : Thread nD τ).loc main_arg1)) (m ((T d : Thread nD τ).loc main_arg2))
        (m ((T d : Thread nD τ).loc main_arg3)) (m ((T d : Thread nD τ).loc main_arg4)) (m ((T d : Thread nD τ).loc main_arg5)) i o := by
  unfold result
  rw [W9, val_v14]
  refine Eq.trans ?_ (last_apply m hok d i o)
  generalize W8 m hok d (Proc.devRef .tc main_v13) = R
  pointwise

/-- The two programs' results, of the same arguments. -/
theorem result_eq (m' : (ℓ : Loc Cert.ReferenceIdeal.nD Cert.ReferenceIdeal.τ Cert.ReferenceIdeal.sig) → Buf (Elt Ideal) ℓ)
    (e0 : m' ((d.tc : Thread Cert.ReferenceIdeal.nD Cert.ReferenceIdeal.τ).loc Cert.ReferenceIdeal.main_arg0) = m ((T d : Thread nD τ).loc main_arg0))
    (e1 : m' ((d.tc : Thread Cert.ReferenceIdeal.nD Cert.ReferenceIdeal.τ).loc Cert.ReferenceIdeal.main_arg1) = m ((T d : Thread nD τ).loc main_arg1))
    (e2 : m' ((d.tc : Thread Cert.ReferenceIdeal.nD Cert.ReferenceIdeal.τ).loc Cert.ReferenceIdeal.main_arg2) = m ((T d : Thread nD τ).loc main_arg2))
    (e3 : m' ((d.tc : Thread Cert.ReferenceIdeal.nD Cert.ReferenceIdeal.τ).loc Cert.ReferenceIdeal.main_arg3) = m ((T d : Thread nD τ).loc main_arg3))
    (e4 : m' ((d.tc : Thread Cert.ReferenceIdeal.nD Cert.ReferenceIdeal.τ).loc Cert.ReferenceIdeal.main_arg4) = m ((T d : Thread nD τ).loc main_arg4))
    (e5 : m' ((d.tc : Thread Cert.ReferenceIdeal.nD Cert.ReferenceIdeal.τ).loc Cert.ReferenceIdeal.main_arg5) = m ((T d : Thread nD τ).loc main_arg5)) :
    Cert.ReferenceIdeal.Value.res_main_v21 (F := Ideal) m' d = result m hok d := by
  have hx : ∀ i, ((m' ((d.tc : Thread Cert.ReferenceIdeal.nD Cert.ReferenceIdeal.τ).loc Cert.ReferenceIdeal.main_arg0) : S16384x5.Idx → BitVec 32) i).toNat
      < 100000 := fun i => by rw [e0]; exact hok d i
  have all (A B : S16384x1000.Idx → EReal) (h : ∀ i o, A (ix2 i o) = B (ix2 i o)) : A = B := funext fun j => by
    rw [eq_ix2 j]
    exact h _ _
  refine all _ _ fun i o => ?_
  refine (reference_apply m' d hx i o).trans (Eq.trans ?_ (result_apply m hok d i o).symm)
  simp only [e0, e1, e2, e3, e4, e5]

end Cert.Proof.Val

end
-- ==== Proof.lean ====
/-
  The claim of this certificate, put together: the kernel runs and leaves the machine quiet, at the bit-exact
  floats and at the ideal ones (one run, Proof/Frames.lean, read twice); the reference runs and leaves the machine
  quiet (its generated run); no operation was rewritten on the way to the ideal kernel; and the two programs'
  results agree at the ideal floats (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_rows
public import proofs.«01_k».proof.Proof.Frames
public import proofs.«01_k».proof.Proof.Pre
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxHeartbeats 4000000 in
/-- The bit-exact kernel's frame: the run of Frames.lean at the bit patterns, its result dropped. -/
theorem frame_p : Cert.quiescent_Kernel := by
  intro m ρ hm
  rw [Same.tables]
  exact Run.run_frame (F := Bits) m ρ fun d x => Run.lt_of_in_rows _ _ _ _ _ _ (hm d) x

/-- The ideal kernel's frame: the same run at the ideal floats. -/
theorem frame_pi : Cert.quiescent_KernelIdeal := fun m ρ hm =>
  Run.run_frame (F := Ideal) m ρ fun d x => Run.lt_of_in_rows _ _ _ _ _ _ (hm d) x

/-- The reference's run: its arguments kept, and it has no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's frame once more, on the inputs of the precondition. -/
theorem frame_ri_in_rows : Cert.quiescent_ReferenceIdeal_pre_in_rows := fun m ρ _ => frame_ri m ρ trivial

/-- The values: kernel and reference end with the same result. -/
theorem value : Cert.algebraic_KernelIdeal_ReferenceIdeal := by
  intro m g m' g' hm hagree
  have hok : Run.PreOK m := fun d x => Run.lt_of_in_rows _ _ _ _ _ _ (hm d) x
  refine ⟨fun c => Run.result m hok c, Run.run_value m g hok, ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5⟩ := hagree c
  exact Val.result_eq m hok c m' e0 e1 e2 e3 e4 e5

theorem claim : Cert.Claim :=
  ⟨Cert.Kernel.Gen.facts, Cert.KernelIdeal.Gen.facts, Cert.ReferenceIdeal.Gen.facts, Cert.Pre_in_rows.Gen.facts,
    frame_p, frame_pi, frame_ri, frame_ri_in_rows, trivial, value⟩

end Cert.Proof

end
